-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S512x512 : Shape := ⟨2, ![512, 512]⟩
abbrev S8x512x512 : Shape := ⟨3, ![8, 512, 512]⟩
abbrev S7 : Shape := ⟨1, ![7]⟩
abbrev S8 : Shape := ⟨1, ![8]⟩
abbrev S_ : Shape := ⟨0, ![]⟩
abbrev S1x512x512 : Shape := ⟨3, ![1, 512, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e5m2⟩
  | .local _ .vmem, ⟨1, _⟩ => ⟨S4096x512, .fp8e5m2⟩
  | .local _ .vmem, ⟨2, _⟩ => ⟨S4096x512, .fp8e5m2⟩
  | .local _ .vmem, ⟨3, _⟩ => ⟨S512x512, .f32⟩
  | .local _ .vmem, ⟨4, _⟩ => ⟨S512x512, .f32⟩
  | .local _ .vmem, ⟨5, _⟩ => ⟨S4096x512, .fp8e5m2⟩
  | .local _ .vmem, ⟨6, _⟩ => ⟨S8x512x512, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v69 : BitVec 32 := Scalar.addi v2 c1_i32_43
  let c8_i32_44 : BitVec 32 := 8#32
  let v70 : BitVec 32 := Scalar.remsi v69 c8_i32_44
  let c1_i32_46 : BitVec 32 := 1#32
  let v71 : BitVec 32 := Scalar.muli v70 c1_i32_46
  let v72 : BitVec 32 := Scalar.addi c0_i32_47 v71
  v72.toNat
def k0_dev2 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v73 : BitVec 32 := Scalar.addi v2 c2_i32
  let c8_i32_48 : BitVec 32 := 8#32
  let v74 : BitVec 32 := Scalar.remsi v73 c8_i32_48
  let c1_i32_50 : BitVec 32 := 1#32
  let v75 : BitVec 32 := Scalar.muli v74 c1_i32_50
  let v76 : BitVec 32 := Scalar.addi c0_i32_51 v75
  v76.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v77 : BitVec 32 := Scalar.addi v2 c3_i32
  let c8_i32_52 : BitVec 32 := 8#32
  let v78 : BitVec 32 := Scalar.remsi v77 c8_i32_52
  let c1_i32_54 : BitVec 32 := 1#32
  let v79 : BitVec 32 := Scalar.muli v78 c1_i32_54
  let v80 : BitVec 32 := Scalar.addi c0_i32_55 v79
  v80.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v81 : BitVec 32 := Scalar.addi v2 c4_i32
  let c8_i32_56 : BitVec 32 := 8#32
  let v82 : BitVec 32 := Scalar.remsi v81 c8_i32_56
  let c1_i32_58 : BitVec 32 := 1#32
  let v83 : BitVec 32 := Scalar.muli v82 c1_i32_58
  let v84 : BitVec 32 := Scalar.addi c0_i32_59 v83
  v84.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v85 : BitVec 32 := Scalar.addi v2 c5_i32
  let c8_i32_60 : BitVec 32 := 8#32
  let v86 : BitVec 32 := Scalar.remsi v85 c8_i32_60
  let c1_i32_62 : BitVec 32 := 1#32
  let v87 : BitVec 32 := Scalar.muli v86 c1_i32_62
  let v88 : BitVec 32 := Scalar.addi c0_i32_63 v87
  v88.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v89 : BitVec 32 := Scalar.addi v2 c6_i32
  let c8_i32_64 : BitVec 32 := 8#32
  let v90 : BitVec 32 := Scalar.remsi v89 c8_i32_64
  let c1_i32_66 : BitVec 32 := 1#32
  let v91 : BitVec 32 := Scalar.muli v90 c1_i32_66
  let v92 : BitVec 32 := Scalar.addi c0_i32_67 v91
  v92.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v93 : BitVec 32 := Scalar.addi v2 c7_i32
  let c8_i32_68 : BitVec 32 := 8#32
  let v94 : BitVec 32 := Scalar.remsi v93 c8_i32_68
  let c1_i32_70 : BitVec 32 := 1#32
  let v95 : BitVec 32 := Scalar.muli v94 c1_i32_70
  let v96 : BitVec 32 := Scalar.addi c0_i32_71 v95
  v96.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let c0_i32_79 : BitVec 32 := 0#32
  ![v2.toNat, 0, 0]
def k0_off3 (d0 : Dev nD) (c1_i32_73 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c1_i32_73
  let c8_i32_74 : BitVec 32 := 8#32
  let v98 : BitVec 32 := Scalar.remsi v97 c8_i32_74
  let c512_i32 : BitVec 32 := 512#32
  let v99 : BitVec 32 := Scalar.muli v98 c512_i32
  let c0_i32_80 : BitVec 32 := 0#32
  ![v99.toNat, 0]
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v97 : BitVec 32 := Scalar.addi v2 c1_i32_73
  let c8_i32_74 : BitVec 32 := 8#32
  let v98 : BitVec 32 := Scalar.remsi v97 c8_i32_74
  let c1_i32_76 : BitVec 32 := 1#32
  let v100 : BitVec 32 := Scalar.muli v98 c1_i32_76
  let v101 : BitVec 32 := Scalar.addi c0_i32_77 v100
  v101.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v109 : BitVec 32 := Scalar.addi v2 c2_i32_81
  let c8_i32_82 : BitVec 32 := 8#32
  let v110 : BitVec 32 := Scalar.remsi v109 c8_i32_82
  let c1_i32_85 : BitVec 32 := 1#32
  let v112 : BitVec 32 := Scalar.muli v110 c1_i32_85
  let v113 : BitVec 32 := Scalar.addi c0_i32_86 v112
  v113.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v121 : BitVec 32 := Scalar.addi v2 c3_i32_90
  let c8_i32_91 : BitVec 32 := 8#32
  let v122 : BitVec 32 := Scalar.remsi v121 c8_i32_91
  let c1_i32_94 : BitVec 32 := 1#32
  let v124 : BitVec 32 := Scalar.muli v122 c1_i32_94
  let v125 : BitVec 32 := Scalar.addi c0_i32_95 v124
  v125.toNat
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v133 : BitVec 32 := Scalar.addi v2 c4_i32_99
  let c8_i32_100 : BitVec 32 := 8#32
  let v134 : BitVec 32 := Scalar.remsi v133 c8_i32_100
  let c1_i32_103 : BitVec 32 := 1#32
  let v136 : BitVec 32 := Scalar.muli v134 c1_i32_103
  let v137 : BitVec 32 := Scalar.addi c0_i32_104 v136
  v137.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_108 : BitVec 32 := 5#32
  let v145 : BitVec 32 := Scalar.addi v2 c5_i32_108
  let c8_i32_109 : BitVec 32 := 8#32
  let v146 : BitVec 32 := Scalar.remsi v145 c8_i32_109
  let c1_i32_112 : BitVec 32 := 1#32
  let v148 : BitVec 32 := Scalar.muli v146 c1_i32_112
  let v149 : BitVec 32 := Scalar.addi c0_i32_113 v148
  v149.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_117 : BitVec 32 := 6#32
  let v157 : BitVec 32 := Scalar.addi v2 c6_i32_117
  let c8_i32_118 : BitVec 32 := 8#32
  let v158 : BitVec 32 := Scalar.remsi v157 c8_i32_118
  let c1_i32_121 : BitVec 32 := 1#32
  let v160 : BitVec 32 := Scalar.muli v158 c1_i32_121
  let v161 : BitVec 32 := Scalar.addi c0_i32_122 v160
  v161.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_126 : BitVec 32 := 7#32
  let v169 : BitVec 32 := Scalar.addi v2 c7_i32_126
  let c8_i32_127 : BitVec 32 := 8#32
  let v170 : BitVec 32 := Scalar.remsi v169 c8_i32_127
  let c1_i32_130 : BitVec 32 := 1#32
  let v172 : BitVec 32 := Scalar.muli v170 c1_i32_130
  let v173 : BitVec 32 := Scalar.addi c0_i32_131 v172
  v173.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_135 : BitVec 32 := 512#32
  let v181 : BitVec 32 := Scalar.muli v2 c512_i32_135
  let c0_i32_138 : BitVec 32 := 0#32
  ![v181.toNat, 0]
def k0_off5 (d0 : Dev nD) (c1_i32_142 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v188 : BitVec 32 := Scalar.addi v2 c1_i32_142
  let c8_i32_143 : BitVec 32 := 8#32
  let v189 : BitVec 32 := Scalar.remsi v188 c8_i32_143
  ![v189.toNat]
def k0_off6 (d0 : Dev nD) (c1_i32_142 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v188 : BitVec 32 := Scalar.addi v2 c1_i32_142
  let c8_i32_143 : BitVec 32 := 8#32
  let v189 : BitVec 32 := Scalar.remsi v188 c8_i32_143
  let c0_i32_147 : BitVec 32 := 0#32
  let c0_i32_148 : BitVec 32 := 0#32
  ![v189.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Views.lean ====
/-
# The exchange's memory: device numbers, row blocks, slots, semaphores

Every device cuts its block of `x` into eight blocks of 512 rows, one per device of the mesh, and
gathers eight such blocks, one per device, in the slots of a second buffer. This module names the
row blocks and the slots as the kernel addresses them, shows that they cut the two buffers into
disjoint parts that cover them, and says what a landed block writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Peers -/

/-- The peer of device `c` at distance `o + 1` around the mesh. -/
def tgt (c : Dev nD) (o : Fin 7) : Dev nD := ⟨(c.val + o.val + 1) % 8, Nat.mod_lt _ (by decide)⟩

/-- Going on from the peer by the complementary distance leads back. -/
theorem tgt_rev (c : Dev nD) (o : Fin 7) : tgt (tgt c o) o.rev = c := by revert c o; decide +kernel
theorem tgt_ne (c : Dev nD) (o : Fin 7) : tgt c o ≠ c := by revert c o; decide +kernel
theorem tgt_injective (c : Dev nD) : Function.Injective (tgt c) := by revert c; decide +kernel
/-- Every device is `c` itself or one of its seven peers. -/
theorem univ_eq (c : Dev nD) : (Finset.univ : Finset (Dev nD)) = insert c (Finset.univ.map ⟨tgt c, tgt_injective c⟩) := by
  revert c; decide +kernel
theorem self_notMem (c : Dev nD) : c ∉ Finset.univ.map ⟨tgt c, tgt_injective c⟩ := by
  intro h; obtain ⟨o, -, ho⟩ := Finset.mem_map.mp h; exact tgt_ne c o ho

/-- A pair of a device and a distance seen from the other end. -/
def swapEnds : Dev nD × Fin 7 ≃ Dev nD × Fin 7 where
  toFun p := (tgt p.1 p.2, p.2.rev)
  invFun p := (tgt p.1 p.2, p.2.rev)
  left_inv p := by ext1 <;> simp [tgt_rev]
  right_inv p := by ext1 <;> simp [tgt_rev]

/-! ## The buffers -/

abbrev x8M : Memref sig .tc .vmem S4096x512 .fp8e5m2 := Memref.whole cc0_scratch0
abbrev xgM : Memref sig .tc .vmem S8x512x512 .fp8e5m2 := Memref.whole cc0_scratch1

set_option backward.proofsInPublic true in
theorem row_inb (k : Dev nD) : ∀ a, (![512 * k.val, 0] : Fin 2 → Nat) a + S512x512.size a ≤ S4096x512.size a := by
  revert k; decide +kernel
theorem slot_inb (k : Dev nD) : ∀ a, (![k.val, 0, 0] : Fin 3 → Nat) a + S1x512x512.size a ≤ S8x512x512.size a := by
  revert k; decide +kernel

abbrev rowR (k : Dev nD) : Rect S4096x512 := Rect.unit (s := S4096x512) ![512 * k.val, 0] S512x512.size (row_inb k)
abbrev slotR (k : Dev nD) : Rect S8x512x512 := Rect.unit (s := S8x512x512) ![k.val, 0, 0] S1x512x512.size (slot_inb k)

/-- Row block `k` of the outgoing buffer. -/
abbrev rowM (k : Dev nD) : Memref sig .tc .vmem S512x512 .fp8e5m2 := x8M.slice (rowR k) (fun _ => rfl)
/-- Slot `k` of the gathered buffer. -/
abbrev slotM (k : Dev nD) : Memref sig .tc .vmem S512x512 .fp8e5m2 :=
  (xgM.slice (slotR k) (fun _ => rfl)).squeeze S512x512 squeezes_S1x512x512_S512x512

theorem row_set (k : Dev nD) : (rowM k).view.set = (rowR k).set := View.set_slice_whole _ _
theorem slot_set (k : Dev nD) : (slotM k).view.set = (slotR k).set := by
  rw [Memref.set_view_squeeze]; exact View.set_slice_whole _ _

theorem mem_row {k : Dev nD} {i : S4096x512.Idx} : i ∈ (rowR k).set ↔ (i 0).val / 512 = k.val := by
  rw [Rect.mem_set_unit]
  constructor
  · intro h; have := h 0; simp at this; omega
  · intro h a
    have h0 := idx2_lt0 i; have h1 := idx2_lt1 i
    match a with
    | ⟨0, _⟩ => exact ⟨show 512 * k.val ≤ (i 0).val by omega, show (i 0).val < 512 * k.val + 512 by omega⟩
    | ⟨1, _⟩ => exact ⟨Nat.zero_le _, show (i 1).val < 0 + 512 by omega⟩

theorem mem_slot {k : Dev nD} {i : S8x512x512.Idx} : i ∈ (slotR k).set ↔ (i 0).val = k.val := by
  rw [Rect.mem_set_unit]
  constructor
  · intro h; have := h 0; simp at this; omega
  · intro h a
    match a with
    | ⟨0, _⟩ => exact ⟨show k.val ≤ (i 0).val by omega, show (i 0).val < k.val + 1 by omega⟩
    | ⟨1, _⟩ => exact ⟨Nat.zero_le _, show (i 1).val < 0 + 512 from by have := (i 1).isLt; simpa using this⟩
    | ⟨2, _⟩ => exact ⟨Nat.zero_le _, show (i 2).val < 0 + 512 from by have := (i 2).isLt; simpa using this⟩

theorem rows_disjoint (b b' : Dev nD) (h : b ≠ b') : Disjoint (rowM b).view.set (rowM b').view.set := by
  rw [row_set, row_set, Finset.disjoint_left]
  intro i hi hi'; exact h (Fin.ext ((mem_row.mp hi).symm.trans (mem_row.mp hi')))
theorem slots_disjoint (b b' : Dev nD) (h : b ≠ b') : Disjoint (slotM b).view.set (slotM b').view.set := by
  rw [slot_set, slot_set, Finset.disjoint_left]
  intro i hi hi'; exact h (Fin.ext ((mem_slot.mp hi).symm.trans (mem_slot.mp hi')))
theorem rows_cover : ((Finset.univ : Finset (Dev nD)).biUnion (β := (rowM 0).view.ty.Idx) fun b => (rowM b).view.set) = Finset.univ := by
  refine Finset.eq_univ_iff_forall.mpr fun (i : S4096x512.Idx) => Finset.mem_biUnion.mpr ?_
  have := idx2_lt0 i
  refine ⟨⟨(i 0).val / 512, by show _ < 8; omega⟩, Finset.mem_univ _, ?_⟩
  rw [row_set]; exact mem_row.mpr rfl
theorem slots_cover : ((Finset.univ : Finset (Dev nD)).biUnion (β := (slotM 0).view.ty.Idx) fun b => (slotM b).view.set) = Finset.univ := by
  refine Finset.eq_univ_iff_forall.mpr fun (i : S8x512x512.Idx) => Finset.mem_biUnion.mpr ?_
  refine ⟨⟨(i 0).val, (i 0).isLt⟩, Finset.mem_univ _, ?_⟩
  rw [slot_set]; exact mem_slot.mpr rfl

/-! ## Contents -/

/-- What a device's gathered buffer holds after the exchange when device `e`'s outgoing buffer holds
    `X e`: in slot `e`, the rows of `X e` that are device `c`'s. -/
def gath (X : Dev nD → S4096x512.Idx → Elt F .fp8e5m2) (c : Dev nD) : S8x512x512.Idx → Elt F .fp8e5m2 := fun i =>
  X ⟨(i 0).val, (i 0).isLt⟩ (ix2 (n0 := 4096) (n1 := 512)
    ⟨512 * c.val + (i 1).val, by have h1 : (i 1).val < 512 := (i 1).isLt; have h2 : c.val < 8 := c.isLt; omega⟩
    ⟨(i 2).val, (i 2).isLt⟩)

theorem row_emb (k : Dev nD) (a b : Fin 512) :
    (rowM k).view.emb (ix2 a b) = ix2 (n0 := 4096) (n1 := 512) ⟨512 * k.val + a.val, by have h2 : k.val < 8 := k.isLt; omega⟩ b := by
  show (rowR k).emb (ix2 a b) = _
  funext d
  match d with
  | ⟨0, _⟩ => apply Fin.ext; show 512 * k.val + 1 * a.val = _; rw [Nat.one_mul]
  | ⟨1, _⟩ => apply Fin.ext; show 0 + 1 * b.val = b.val; omega

theorem slot_emb (k : Dev nD) (a b : Fin 512) :
    (slotM k).view.emb (ix2 a b) = ix3 (n0 := 8) (n1 := 512) (n2 := 512) k a b := by
  show (slotR k).emb (Shape.reshapeEquiv _ (ix2 a b)) = _
  rw [reshapeEquiv_ix2_1ab]
  funext d
  match d with
  | ⟨0, _⟩ => apply Fin.ext; show k.val + 1 * 0 = k.val; omega
  | ⟨1, _⟩ => apply Fin.ext; show 0 + 1 * a.val = a.val; omega
  | ⟨2, _⟩ => apply Fin.ext; show 0 + 1 * b.val = b.val; omega

omit [FloatOps F] in
/-- Device `e`'s row block `c` landed in slot `e` of device `c`: the slot holds what `gath` says. -/
theorem landed_eq (X : Dev nD → S4096x512.Idx → Elt F .fp8e5m2) (c e : Dev nD) (fd : S8x512x512.Idx → Elt F .fp8e5m2) :
    ∀ i ∈ (slotM e).view.set, (slotM e).view.write (Elt F) fd ((rowM c).view.read (Elt F) (X e)) Finset.univ i = gath X c i := by
  intro i hi
  obtain ⟨j, -, rfl⟩ := Finset.mem_map.mp hi
  rw [View.write_emb_of_mem _ _ (Finset.mem_univ j)]
  obtain ⟨a, b, rfl⟩ : ∃ a b : Fin 512, j = ix2 (n0 := 512) (n1 := 512) a b := ⟨j 0, j 1, eq_ix2 j⟩
  show X e ((rowM c).view.emb (ix2 a b)) = gath X c ((slotM e).view.emb (ix2 a b))
  rw [row_emb, slot_emb]; rfl

/-! ## The semaphores -/

/-- The barrier semaphore, the seven send semaphores, the eight receive semaphores, the local copy's. -/
abbrev barS : Sem sig := (SemArray.scalar (sig.barrier 0 rfl) : Sems sig S_).sem

theorem send_inb (o : Fin 7) : ∀ a, (![o.val] : Fin 1 → Nat) a + S1.size a ≤ S7.size a := by revert o; decide +kernel
theorem recv_inb (k : Dev nD) : ∀ a, (![k.val] : Fin 1 → Nat) a + S1.size a ≤ S8.size a := by revert k; decide +kernel

abbrev sendS (o : Fin 7) : DmaSem sig :=
  ((cc0_scratch2.slice (Rect.unit (s := S7) ![o.val] S1.size (send_inb o))).squeeze S_ squeezes_S1_S_).sem
abbrev recvS (k : Dev nD) : DmaSem sig :=
  ((cc0_scratch3.slice (Rect.unit (s := S8) ![k.val] S1.size (recv_inb k))).squeeze S_ squeezes_S1_S_).sem
abbrev locS : DmaSem sig := cc0_scratch4.sem

theorem sendS_val (o : Fin 7) : (sendS o).val = 7 + o.val := by revert o; decide +kernel
theorem recvS_val (k : Dev nD) : (recvS k).val = 14 + k.val := by revert k; decide +kernel
theorem locS_val : (locS : DmaSem sig).val = 22 := by decide +kernel

end Cert.Exchange

end
-- ==== Proof.Protocol.lean ====
/-
# The exchange as a schedule of rounds

Every semaphore of the exchange is used for one round. A device's barrier counts seven signals, one
from each peer; with its signal a peer hands over the slot of its own gathered buffer that the
signalled device is to fill. A send semaphore counts one transfer and gives the row block back; a
receive semaphore counts the landing of a peer's row block in that peer's slot; the local copy's
semaphore does the same for the device's own row block. Everything is stated once, for any device,
any peer and any contents `X` of the outgoing buffers.
-/
module

public import proofs.«01_k».proof.Proof.Views

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of a cell's duties: the distance from the cell's device to the peer that pays. -/
abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-! ## Cells -/

abbrev barCell (c : Dev nD) : GSem nD τ sig := ((c : Thread nD τ), .reg barS)
abbrev sendCell (c : Dev nD) (o : Fin 7) : GSem nD τ sig := ((c : Thread nD τ), .dma (sendS o))
abbrev recvCell (c e : Dev nD) : GSem nD τ sig := ((c : Thread nD τ), .dma (recvS e))
abbrev locCell (c : Dev nD) : GSem nD τ sig := ((c : Thread nD τ), .dma locS)

/-- What a semaphore is for. -/
inductive Role where
  | bar | send (o : Fin 7) | recv (e : Dev nD) | loc | other
  deriving DecidableEq

/-- The role of a semaphore, read off its number. -/
def roleOf : SemLoc sig → Role
  | .reg s => if s = barS then .bar else .other
  | .dma q =>
    if h : 7 ≤ q.val ∧ q.val < 14 then .send ⟨q.val - 7, by omega⟩
    else if h : 14 ≤ q.val ∧ q.val < 22 then .recv ⟨q.val - 14, by show _ < 8; omega⟩
    else if q.val = 22 then .loc else .other

theorem role_bar : roleOf (.reg barS) = .bar := by decide +kernel
theorem role_send (o : Fin 7) : roleOf (.dma (sendS o)) = .send o := by revert o; decide +kernel
theorem role_recv (e : Dev nD) : roleOf (.dma (recvS e)) = .recv e := by revert e; decide +kernel
theorem role_loc : roleOf (.dma locS) = .loc := by decide +kernel

theorem recvCell_inj {a b e e' : Dev nD} (h : recvCell a e = recvCell b e') : a = b ∧ e = e' := by
  refine ⟨congrArg (fun g : GSem nD τ sig => g.1.1) h, ?_⟩
  have h2 : roleOf (recvCell a e).2 = roleOf (recvCell b e').2 := by rw [h]
  rw [role_recv, role_recv] at h2; exact Role.recv.inj h2
theorem barCell_inj {a b : Dev nD} (h : barCell a = barCell b) : a = b := congrArg (fun g : GSem nD τ sig => g.1.1) h
theorem recv_ne_bar (a b e : Dev nD) : recvCell a e ≠ barCell b := fun h => by cases congrArg Prod.snd h

/-! ## The credit of one block -/

abbrev N : ℕ := (slotM 0).view.dmaCredit
theorem N_pos : 0 < N := View.dmaCredit_pos _ (by decide)
theorem slot_credit (k : Dev nD) : (slotM k).view.dmaCredit = N := rfl
theorem row_credit (k : Dev nD) : (rowM k).view.dmaCredit = N := rfl

/-! ## Holding a row block, holding a slot -/

variable (X : Dev nD → S4096x512.Idx → Elt F .fp8e5m2)

def rowPts (c k : Dev nD) : sProp 𝕄 := (rowM k).view.loc (c : Thread nD τ) ↦[(rowM k).view.set]{fullShare} X c
def slotPts (c k : Dev nD) (f : S8x512x512.Idx → Elt F .fp8e5m2) : sProp 𝕄 :=
  (slotM k).view.loc (c : Thread nD τ) ↦[(slotM k).view.set]{fullShare} f

omit [FloatOps F] in
instance rowPts_storable (c k : Dev nD) : BI.Storable (upEmb : UEmb _ 𝕄) (rowPts X c k) := by unfold rowPts; infer_instance
omit [FloatOps F] in
instance slotPts_storable (c k : Dev nD) (f) : BI.Storable (upEmb : UEmb _ 𝕄) (slotPts (F := F) c k f) := by unfold slotPts; infer_instance

omit [FloatOps F] in
/-- The outgoing buffer is its eight row blocks, -/
theorem rows_eq (c : Dev nD) : (((c : Thread nD τ).loc cc0_scratch0) ↦{fullShare} X c : sProp 𝕄) = bigSep Finset.univ fun k => rowPts X c k :=
  Ring.pointsTo_blocks (ℓ := (c : Thread nD τ).loc cc0_scratch0) (fun k : Dev nD => (rowM k).view.set) rows_disjoint rows_cover (X c)
omit [FloatOps F] in
/-- the gathered buffer its eight slots. -/
theorem slots_eq (c : Dev nD) (f : S8x512x512.Idx → Elt F .fp8e5m2) :
    (((c : Thread nD τ).loc cc0_scratch1) ↦{fullShare} f : sProp 𝕄) = bigSep Finset.univ fun k => slotPts c k f :=
  Ring.pointsTo_blocks (ℓ := (c : Thread nD τ).loc cc0_scratch1) (fun k : Dev nD => (slotM k).view.set) slots_disjoint slots_cover f

omit [FloatOps F] in
/-- A conjunction over the devices: the device itself and its peers. -/
theorem bigSep_peers (c : Dev nD) (Φ : Dev nD → sProp 𝕄) :
    bigSep Finset.univ Φ = iprop(Φ c ∗ bigSep Finset.univ fun o : Fin 7 => Φ (tgt c o)) := by
  rw [univ_eq c, bigSep_insert (self_notMem c), bigSep_map]
  rfl

omit [FloatOps F] in
theorem slotPts_landed (c e : Dev nD) (fd : S8x512x512.Idx → Elt F .fp8e5m2) :
    (slotPts c e ((slotM e).view.write (Elt F) fd ((rowM c).view.read (Elt F) (X e)) Finset.univ) : sProp 𝕄) = slotPts c e (gath X c) := by
  unfold slotPts
  exact pointsTo_congr (landed_eq X c e fd)

/-! ## The schedule -/

def exch : Rounds.Schedule (GSem nD τ sig) (Fin 7) 𝕄 where
  duties g r := if r = 0 ∧ g.1.2 = .tc then
      match roleOf g.2 with
      | .bar => Finset.univ
      | .send _ => {0}
      | .recv e => if e = g.1.1 then ∅ else {0}
      | .loc => {0}
      | .other => ∅
    else ∅
  unitless _ := False
  amount g _ _ := match roleOf g.2 with | .bar => 1 | _ => N
  payload g _ d := match roleOf g.2 with
    | .bar => iprop(∃ f, slotPts (tgt g.1.1 d) g.1.1 f)
    | .send o => rowPts X g.1.1 (tgt g.1.1 o)
    | .recv e => slotPts g.1.1 e (gath X g.1.1)
    | .loc => iprop(slotPts g.1.1 g.1.1 (gath X g.1.1) ∗ rowPts X g.1.1 g.1.1)
    | .other => iprop(emp)
  amount_pos g _ _ _ := by
    split
    · exact Nat.one_pos
    · exact N_pos

omit [FloatOps F] in
instance exch_payload_storable (g : GSem nD τ sig) (r : ℕ) (d : Fin 7) : BI.Storable (upEmb : UEmb _ 𝕄) ((exch X).payload g r d) := by
  dsimp only [exch]
  split <;> infer_instance

section Sched
variable (c e : Dev nD) (o : Fin 7) (d : Fin 7)

omit [FloatOps F] in
theorem duties_bar : (exch X).duties (barCell c) 0 = Finset.univ := by
  dsimp only [exch]; rw [if_pos ⟨rfl, rfl⟩, role_bar]
omit [FloatOps F] in
theorem duties_send : (exch X).duties (sendCell c o) 0 = {0} := by
  dsimp only [exch]; rw [if_pos ⟨rfl, rfl⟩, role_send]
omit [FloatOps F] in
theorem duties_recv (h : e ≠ c) : (exch X).duties (recvCell c e) 0 = {0} := by
  dsimp only [exch]; rw [if_pos ⟨rfl, rfl⟩, role_recv]; exact if_neg h
omit [FloatOps F] in
theorem duties_recv_self : (exch X).duties (recvCell c c) 0 = ∅ := by
  dsimp only [exch]; rw [if_pos ⟨rfl, rfl⟩, role_recv]; exact if_pos rfl
omit [FloatOps F] in
theorem duties_loc : (exch X).duties (locCell c) 0 = {0} := by
  dsimp only [exch]; rw [if_pos ⟨rfl, rfl⟩, role_loc]
omit [FloatOps F] in
theorem duties_later (g : GSem nD τ sig) : ∀ r, 1 ≤ r → (exch X).duties g r = ∅ :=
  fun r hr => by dsimp only [exch]; rw [if_neg fun h => by omega]

omit [FloatOps F] in
theorem amount_bar : (exch X).amount (barCell c) 0 d = 1 := by dsimp only [exch]; rw [role_bar]
omit [FloatOps F] in
theorem amount_send : (exch X).amount (sendCell c o) 0 d = N := by dsimp only [exch]; rw [role_send]
omit [FloatOps F] in
theorem amount_recv : (exch X).amount (recvCell c e) 0 d = N := by dsimp only [exch]; rw [role_recv]
omit [FloatOps F] in
theorem amount_loc : (exch X).amount (locCell c) 0 d = N := by dsimp only [exch]; rw [role_loc]

omit [FloatOps F] in
theorem expect_bar : (exch X).expect (barCell c) 0 = 7 := by
  unfold Schedule.expect Schedule.amountOf
  rw [duties_bar, Finset.sum_congr rfl fun d _ => amount_bar X c d]; rfl
omit [FloatOps F] in
theorem expect_send : (exch X).expect (sendCell c o) 0 = N := by
  unfold Schedule.expect Schedule.amountOf; rw [duties_send, Finset.sum_singleton, amount_send]
omit [FloatOps F] in
theorem expect_recv (h : e ≠ c) : (exch X).expect (recvCell c e) 0 = N := by
  unfold Schedule.expect Schedule.amountOf; rw [duties_recv X c e h, Finset.sum_singleton, amount_recv]
omit [FloatOps F] in
theorem expect_loc : (exch X).expect (locCell c) 0 = N := by
  unfold Schedule.expect Schedule.amountOf; rw [duties_loc, Finset.sum_singleton, amount_loc]

omit [FloatOps F] in
theorem payload_bar : (exch X).payload (barCell c) 0 d = iprop(∃ f, slotPts (tgt c d) c f) := by dsimp only [exch]; rw [role_bar]
omit [FloatOps F] in
theorem payload_send : (exch X).payload (sendCell c o) 0 d = rowPts X c (tgt c o) := by dsimp only [exch]; rw [role_send]
omit [FloatOps F] in
theorem payload_recv : (exch X).payload (recvCell c e) 0 d = slotPts c e (gath X c) := by dsimp only [exch]; rw [role_recv]
omit [FloatOps F] in
theorem payload_loc : (exch X).payload (locCell c) 0 d = iprop(slotPts c c (gath X c) ∗ rowPts X c c) := by
  dsimp only [exch]; rw [role_loc]

omit [FloatOps F] in
theorem rest_bar : bigSep ((exch X).duties (barCell c) 0 \ ∅) (fun d => (exch X).payload (barCell c) 0 d)
    = bigSep Finset.univ fun o => iprop(∃ f, slotPts (tgt c o) c f) := by
  rw [Finset.sdiff_empty, duties_bar]; exact bigSep_congr fun d _ => payload_bar X c d
omit [FloatOps F] in
theorem rest_send : bigSep ((exch X).duties (sendCell c o) 0 \ ∅) (fun d => (exch X).payload (sendCell c o) 0 d) = rowPts X c (tgt c o) := by
  rw [Finset.sdiff_empty, duties_send, bigSep_singleton, payload_send]
omit [FloatOps F] in
theorem rest_recv (h : e ≠ c) : bigSep ((exch X).duties (recvCell c e) 0 \ ∅) (fun d => (exch X).payload (recvCell c e) 0 d) = slotPts c e (gath X c) := by
  rw [Finset.sdiff_empty, duties_recv X c e h, bigSep_singleton, payload_recv]
omit [FloatOps F] in
theorem rest_loc : bigSep ((exch X).duties (locCell c) 0 \ ∅) (fun d => (exch X).payload (locCell c) 0 d)
    = iprop(slotPts c c (gath X c) ∗ rowPts X c c) := by
  rw [Finset.sdiff_empty, duties_loc, bigSep_singleton, payload_loc]

end Sched

/-! ## What a device owes; the levels -/

/-- The distances from `j` on. -/
abbrev from' (j : ℕ) : Finset (Fin 7) := Finset.univ.filter fun o => j ≤ o.val

theorem from_peel {j : ℕ} (hj : j < 7) : from' j = insert (⟨j, hj⟩ : Fin 7) (from' (j + 1)) := by
  ext o; simp only [Finset.mem_filter, Finset.mem_univ, true_and, Finset.mem_insert, Fin.ext_iff]; omega
theorem from_notMem {j : ℕ} (hj : j < 7) : (⟨j, hj⟩ : Fin 7) ∉ from' (j + 1) := by simp
theorem from_zero : from' 0 = Finset.univ := by decide
theorem from_seven : from' 7 = ∅ := by decide

/-- The signals still owed from distance `j + 1` on, -/
def obar (c : Dev nD) (j : ℕ) : CellTallies nD τ sig Unit := ∑ o ∈ from' j, tallyAt (barCell (tgt c o)) () 1
/-- and the transfers. -/
def orecv (c : Dev nD) (j : ℕ) : CellTallies nD τ sig Unit := ∑ o ∈ from' j, tallyAt (recvCell (tgt c o) c) () N

theorem obar_peel (c : Dev nD) {j : ℕ} (hj : j < 7) : obar c j = obar c (j + 1) + tallyAt (barCell (tgt c ⟨j, hj⟩)) () 1 := by
  unfold obar; rw [from_peel hj, Finset.sum_insert (from_notMem hj), add_comm]
theorem orecv_peel (c : Dev nD) {j : ℕ} (hj : j < 7) : orecv c j = orecv c (j + 1) + tallyAt (recvCell (tgt c ⟨j, hj⟩) c) () N := by
  unfold orecv; rw [from_peel hj, Finset.sum_insert (from_notMem hj), add_comm]
theorem obar_seven (c : Dev nD) : obar c 7 = 0 := by unfold obar; rw [from_seven, Finset.sum_empty]
theorem orecv_seven (c : Dev nD) : orecv c 7 = 0 := by unfold orecv; rw [from_seven, Finset.sum_empty]

/-- What a device owes when it starts: a signal to every peer and a block to every peer. -/
def O₀ (c : Dev nD) : CellTallies nD τ sig Unit := orecv c 0 + obar c 0

theorem sum_tally_apply {s : Finset (Fin 7)} (f : Fin 7 → GSem nD τ sig) (n : ℕ) (g : GSem nD τ sig) :
    (∑ o ∈ s, (tallyAt (f o) () n : CellTallies nD τ sig Unit)) g () = ∑ o ∈ s, if g = f o then n else 0 := by
  rw [Finset.sum_apply, Finsupp.finset_sum_apply]
  refine Finset.sum_congr rfl fun o _ => ?_
  rw [tallyAt_apply]; simp

theorem orecv_pos {c : Dev nD} {j : ℕ} {g : GSem nD τ sig} {u : Unit} (h : 0 < orecv c j g u) : ∃ o, g = recvCell (tgt c o) c := by
  cases u; unfold orecv at h; rw [sum_tally_apply] at h
  by_contra hn
  rw [Finset.sum_eq_zero fun o _ => if_neg fun hg => hn ⟨o, hg⟩] at h
  exact Nat.lt_irrefl 0 h
theorem obar_pos {c : Dev nD} {j : ℕ} {g : GSem nD τ sig} {u : Unit} (h : 0 < obar c j g u) : ∃ o, g = barCell (tgt c o) := by
  cases u; unfold obar at h; rw [sum_tally_apply] at h
  by_contra hn
  rw [Finset.sum_eq_zero fun o _ => if_neg fun hg => hn ⟨o, hg⟩] at h
  exact Nat.lt_irrefl 0 h
theorem O₀_pos {c : Dev nD} {g : GSem nD τ sig} {u : Unit} (h : 0 < O₀ c g u) :
    (∃ o, g = recvCell (tgt c o) c) ∨ ∃ o, g = barCell (tgt c o) := by
  unfold O₀ at h
  rw [Pi.add_apply, Finsupp.add_apply] at h
  rcases Nat.add_pos_iff_pos_or_pos.mp h with h | h
  · exact .inl (orecv_pos h)
  · exact .inr (obar_pos h)

def L (g : GSem nD τ sig) : Finset Unit := if g.1.2 = .tc then {()} else ∅
/-- Barriers at 1, receives at 2, everything else at 0. -/
def lv (g : GSem nD τ sig) (_ : Unit) : ℕ := match roleOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c e : Dev nD) : lv (recvCell c e) () = 2 := by unfold lv; rw [role_recv]

omit [FloatOps F] in
/-- A wait of the pipeline's own is below everything a device owes. -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; unfold lv; rw [hq])
      (fun g u hg => by
        cases u
        rcases O₀_pos hg with ⟨o, rfl⟩ | ⟨o, rfl⟩
        · rw [lv_recv]; decide
        · rw [lv_bar]; decide)
  · rw [MayWait_zero]; iintro -; iempintro

omit [FloatOps F] in
/-- At its barrier a device owes blocks only, and the receives are above the barriers. -/
theorem mayWait_bar (c : Dev nD) : (levAts L lv : sProp 𝕄) ⊢ MayWait (c : Thread nD τ) (.reg barS) () (orecv c 0) :=
  MayOwe.of_cut (L := L) (lev := lv) 1 (fun p hp => by rw [Finset.mem_singleton.mp hp, L_tc]; exact Finset.mem_singleton_self _)
    (fun g u hg => by obtain ⟨o, rfl⟩ := orecv_pos hg; exact Finset.mem_singleton_self _)
    (fun p hp => by rw [Finset.mem_singleton.mp hp]; exact (lv_bar c).le)
    (fun g u hg => by cases u; obtain ⟨o, rfl⟩ := orecv_pos hg; rw [lv_recv]; decide)

/-! ## Working through the seven peers in order -/

/-- The parts for the distances from `j` on, -/
def rest (j : ℕ) (Φ : Fin 7 → sProp 𝕄) : sProp 𝕄 := bigSep (from' j) Φ
/-- and those for the distances before `j`. -/
def past (j : ℕ) (Φ : Fin 7 → sProp 𝕄) : sProp 𝕄 := bigSep (Finset.univ.filter fun o : Fin 7 => o.val < j) Φ

omit [FloatOps F] in
theorem rest_zero (Φ : Fin 7 → sProp 𝕄) : rest 0 Φ = bigSep Finset.univ Φ := by unfold rest; rw [from_zero]
omit [FloatOps F] in
theorem rest_peel {j : ℕ} (hj : j < 7) (Φ : Fin 7 → sProp 𝕄) : rest j Φ = iprop(Φ ⟨j, hj⟩ ∗ rest (j + 1) Φ) := by
  unfold rest; rw [from_peel hj, bigSep_insert (from_notMem hj)]; rfl
omit [FloatOps F] in
theorem past_zero (Φ : Fin 7 → sProp 𝕄) : past 0 Φ = iprop(emp) := by
  unfold past; rw [show (Finset.univ.filter fun o : Fin 7 => o.val < 0) = ∅ by decide, bigSep_empty]; rfl
omit [FloatOps F] in
theorem past_seven (Φ : Fin 7 → sProp 𝕄) : past 7 Φ = bigSep Finset.univ Φ := by
  unfold past; rw [show (Finset.univ.filter fun o : Fin 7 => o.val < 7) = Finset.univ by decide]
omit [FloatOps F] in
theorem past_push {j : ℕ} (hj : j < 7) (Φ : Fin 7 → sProp 𝕄) : past (j + 1) Φ = iprop(Φ ⟨j, hj⟩ ∗ past j Φ) := by
  unfold past
  rw [show (Finset.univ.filter fun o : Fin 7 => o.val < j + 1) = insert (⟨j, hj⟩ : Fin 7) (Finset.univ.filter fun o : Fin 7 => o.val < j) by
    ext o; simp only [Finset.mem_filter, Finset.mem_univ, true_and, Finset.mem_insert, Fin.ext_iff]; omega,
    bigSep_insert (by simp)]
  rfl

end Cert.Exchange

end
-- ==== Proof.Steps.lean ====
/-
# One step of the exchange

The kernel's exchange is seven signals, a barrier wait, seven transfers, a local copy, and the waits
for all of them. Each kind of step is proved here once, for any device and any distance `j`, between
the state with the steps before `j` done and the state with step `j` done as well.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All cells of all devices -/

/-- The kernel's own semaphores in order: seven sends, eight receives, the local copy. -/
def osem (i : Fin 16) : SemLoc sig :=
  if h : i.val < 7 then .dma (sendS ⟨i.val, h⟩)
  else if h' : i.val < 15 then .dma (recvS ⟨i.val - 7, by show _ < 8; omega⟩)
  else .dma locS
/-- The barrier before them. -/
def csem (i : Fin 17) : SemLoc sig := Fin.cases (.reg barS) osem i
abbrev kcell (ck : Dev nD × Fin 17) : GSem nD τ sig := ((ck.1 : Thread nD τ), csem ck.2)

def ixSend (o : Fin 7) : Fin 17 := ⟨1 + o.val, by omega⟩
def ixRecv (e : Dev nD) : Fin 17 := ⟨8 + e.val, by have : e.val < 8 := e.isLt; omega⟩

theorem csem_bar : csem 0 = .reg barS := rfl
theorem csem_send (o : Fin 7) : csem (ixSend o) = .dma (sendS o) := by revert o; decide +kernel
theorem csem_recv (e : Dev nD) : csem (ixRecv e) = .dma (recvS e) := by revert e; decide +kernel
theorem csem_loc : csem 16 = .dma locS := by decide +kernel
theorem csem_injective : Function.Injective csem := by decide +kernel

variable (X : Dev nD → S4096x512.Idx → Elt F .fp8e5m2) (K : Dev nD × Fin 17 → ℕ)

/-- Every cell's invariant, at some name, and that every cell is at its first round. -/
def records : sProp 𝕄 :=
  iprop((bigSep Finset.univ fun ck : Dev nD × Fin 17 => cellInv EX (exch X) (K ck) (kcell ck))
    ∗ bigSep Finset.univ fun ck : Dev nD × Fin 17 => reached EX (kcell ck) 0)

omit [FloatOps F] in
instance records_persistent : BI.Persistent (records X K) := by unfold records; infer_instance

omit [FloatOps F] in
theorem records_at (ck : Dev nD × Fin 17) : records X K ⊢ iprop(cellInv EX (exch X) (K ck) (kcell ck) ∗ reached EX (kcell ck) 0) := by
  unfold records
  exact BI.sep_mono (bigSep_elim (Finset.mem_univ ck)) (bigSep_elim (Finset.mem_univ ck))
omit [FloatOps F] in
theorem records_bar (c : Dev nD) : records X K ⊢ iprop(cellInv EX (exch X) (K (c, 0)) (barCell c) ∗ reached EX (barCell c) 0) :=
  records_at X K (c, 0)
omit [FloatOps F] in
theorem records_send (c : Dev nD) (o : Fin 7) : records X K ⊢ iprop(cellInv EX (exch X) (K (c, ixSend o)) (sendCell c o) ∗ reached EX (sendCell c o) 0) := by
  have h := records_at X K (c, ixSend o); simp only [kcell, csem_send] at h; exact h
omit [FloatOps F] in
theorem records_recv (c e : Dev nD) : records X K ⊢ iprop(cellInv EX (exch X) (K (c, ixRecv e)) (recvCell c e) ∗ reached EX (recvCell c e) 0) := by
  have h := records_at X K (c, ixRecv e); simp only [kcell, csem_recv] at h; exact h
omit [FloatOps F] in
theorem records_loc (c : Dev nD) : records X K ⊢ iprop(cellInv EX (exch X) (K (c, 16)) (locCell c) ∗ reached EX (locCell c) 0) := by
  have h := records_at X K (c, 16); simp only [kcell, csem_loc] at h; exact h

/-! ## The kernel's addressing -/

omit [FloatOps F] in
theorem rowM_of {off : Fin 2 → ℕ} {h} (k : Dev nD) (ho : off = ![512 * k.val, 0]) :
    (x8M.slice (Rect.unit (s := S4096x512) off S512x512.size h) (fun _ => rfl) : Memref sig .tc .vmem S512x512 .fp8e5m2) = rowM k := by
  subst ho; rfl
omit [FloatOps F] in
theorem slotM_of {off : Fin 3 → ℕ} {h} (k : Dev nD) (ho : off = ![k.val, 0, 0]) :
    ((xgM.slice (Rect.unit (s := S8x512x512) off S1x512x512.size h) (fun _ => rfl)).squeeze S512x512 squeezes_S1x512x512_S512x512
      : Memref sig .tc .vmem S512x512 .fp8e5m2) = slotM k := by
  subst ho; rfl
omit [FloatOps F] in
theorem recvS_of {off : Fin 1 → ℕ} {h} (k : Dev nD) (ho : off = ![k.val]) :
    ((cc0_scratch3.slice (Rect.unit (s := S8) off S1.size h)).squeeze S_ squeezes_S1_S_).sem = recvS k := by
  subst ho; rfl

/-! ## The states between steps -/

section Steps
variable (c : Dev nD)

/-- What the signal to a peer takes: the right to signal it, and the slot it is to fill. -/
def sigTok (o : Fin 7) : sProp 𝕄 := iprop(dutyTok EX (barCell (tgt c o)) 0 o.rev ∗ ∃ f, slotPts c (tgt c o) f)
/-- What the transfer to a peer takes: the row block, the peer's slot, and the right to count it at both ends. -/
def sendTok (o : Fin 7) : sProp 𝕄 :=
  iprop((rowPts X c (tgt c o) ∗ ∃ f, slotPts (tgt c o) c f) ∗ dutyTok EX (sendCell c o) 0 0 ∗ dutyTok EX (recvCell (tgt c o) c) 0 0)
def sendCred (o : Fin 7) : sProp 𝕄 := cred (tallyAt (sendCell c o) () N)
/-- What the wait for a peer's block takes and what it leaves. -/
def recvTok (o : Fin 7) : sProp 𝕄 := iprop(atPos EX (recvCell c (tgt c o)) 0 ∅ 0 ∗ cred (tallyAt (recvCell c (tgt c o)) () N))
def recvDone (o : Fin 7) : sProp 𝕄 := iprop(atPos EX (recvCell c (tgt c o)) 1 ∅ 0 ∗ slotPts c (tgt c o) (gath X c))
/-- What the wait for a transfer takes and what it leaves. -/
def backTok (o : Fin 7) : sProp 𝕄 := iprop(atPos EX (sendCell c o) 0 ∅ 0 ∗ cred (tallyAt (sendCell c o) () N))
def backDone (o : Fin 7) : sProp 𝕄 := iprop(atPos EX (sendCell c o) 1 ∅ 0 ∗ rowPts X c (tgt c o))

def sigSt (j : ℕ) : sProp 𝕄 := iprop((∃ W, owes (c : Thread nD τ) (orecv c 0 + obar c j) W) ∗ rest j (sigTok c))
def sendSt (j : ℕ) : sProp 𝕄 := iprop((∃ W, owes (c : Thread nD τ) (orecv c j) W) ∗ rest j (sendTok X c) ∗ past j (sendCred c))
def recvSt (j : ℕ) : sProp 𝕄 := iprop((∃ W, owes (c : Thread nD τ) 0 W) ∗ rest j (recvTok c) ∗ past j (recvDone X c))
def backSt (j : ℕ) : sProp 𝕄 := iprop((∃ W, owes (c : Thread nD τ) 0 W) ∗ rest j (backTok c) ∗ past j (backDone X c))

theorem step_signal {j : ℕ} (hj : j < 7) (n : Dev nD) (hn : n = tgt c ⟨j, hj⟩) {k' : ℕ} (hk : 1 = k')
    {α : Type} {Q : α → sProp 𝕄} {k : PUnit → Prog (TpuEff nD τ sig (Elt F) Λ₀ .tc) α} :
    iprop(records X K ∗ sigSt c j)
      ⊢ iprop((sigSt c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  unfold sigSt
  rw [rest_peel hj]
  unfold sigTok
  iintro ⟨#HR, ⟨%W, HO⟩, ⟨Htok, Hslot⟩, Hrest⟩ Hk
  ihave HB := (records_bar X K (tgt c ⟨j, hj⟩)) $$ HR
  icases HB with ⟨#HI, #Hr⟩
  iapply (Rounds.wp_signal 𝒱₀ EX (exch X) (c : Thread nD τ) none (dst := (tgt c ⟨j, hj⟩ : Thread nD τ)) (κ := K (tgt c ⟨j, hj⟩, 0))
      (d := (⟨j, hj⟩ : Fin 7).rev) (by rw [duties_bar]; exact Finset.mem_univ _) ((amount_bar X (tgt c ⟨j, hj⟩) _).trans hk) ()
      (O₀ := orecv c 0 + obar c j) (orecv c 0 + obar c (j + 1)) (by rw [obar_peel c hj, ← hk, add_assoc])) $$ [HO Htok Hslot]
  · isplitr; · iexact HI
    isplitl [HO]; · iexact HO
    isplitl [Htok]; · iexact Htok
    isplitl [Hslot]
    · rw [payload_bar, tgt_rev]; iexact Hslot
    iexact Hr
  iintro HO
  iapply Hk
  isplitl [HO]; · iexists W; iexact HO
  iexact Hrest

theorem step_barrier {k' : ℕ} (hk : 7 = k') {α : Type} {Q : α → sProp 𝕄} {k : PUnit → Prog (TpuEff nD τ sig (Elt F) Λ₀ .tc) α} :
    iprop(records X K ∗ levAts L lv ∗ (sigSt c 7 ∗ cred (tallyAt (barCell c) () 7) ∗ atPos EX (barCell c) 0 ∅ 0))
      ⊢ iprop((((∃ W, owes (c : Thread nD τ) (orecv c 0) W) ∗ atPos EX (barCell c) 1 ∅ 0
              ∗ bigSep Finset.univ fun o => iprop(∃ f, slotPts (tgt c o) c f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold sigSt
  rw [obar_seven, add_zero]
  iintro ⟨#HR, #Hlev, ⟨⟨%W, HO⟩, -⟩, Hc, Hat⟩ Hk
  ihave HB := (records_bar X K c) $$ HR
  icases HB with ⟨#HI, #Hr⟩
  iapply (Rounds.wp_wait_rest_token 𝒱₀ EX (exch X) (c : Thread nD τ) none (κ := K (c, 0))
      (wpE_semWait_eq 𝒱₀ (c : Thread nD τ) none Set.univ) (Set.mem_univ _) () (O := orecv c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar X c)); iexact Hpay

theorem step_send {j : ℕ} (hj : j < 7) (n : Dev nD) (hn : n = tgt c ⟨j, hj⟩)
    {src : Memref sig .tc .vmem S512x512 .fp8e5m2} (hs : src = rowM (tgt c ⟨j, hj⟩))
    {dst : Memref sig .tc .vmem S512x512 .fp8e5m2} (hd : dst = slotM c)
    {sS sem : DmaSem sig} (hsS : sS = sendS ⟨j, hj⟩) (hsem : sem = recvS c)
    {hsc : (dst : Memref sig (Dev.tc n : Thread nD τ).2.kind .vmem S512x512 .fp8e5m2).view.ref.isScScratch = false}
    {h₁ : src.view.WordExact} {h₂ : dst.view.WordExact}
    {h₃ : DmaTarget.Typed .vmem (.dma sem) (.remote (Dev.tc n : Thread nD τ) (dst : Memref sig (Dev.tc n : Thread nD τ).2.kind .vmem S512x512 .fp8e5m2) (.dma sS) hsc)}
    {α : Type} {Q : α → sProp 𝕄} {k : PUnit → Prog (TpuEff nD τ sig (Elt F) Λ₀ .tc) α} :
    iprop(records X K ∗ sendSt X c j)
      ⊢ iprop((sendSt X c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sem) h₁ h₂ h₃) k) Q) := by
  subst hn hs hd hsS hsem
  unfold sendSt
  rw [rest_peel hj, past_push hj]
  unfold sendTok
  iintro ⟨#HR, ⟨%W, HO⟩, ⟨⟨⟨Hrow, ⟨%fn, Hslot⟩⟩, HtS, HtV⟩, Hrest⟩, Hpast⟩ Hk
  ihave HS := (records_send X K c ⟨j, hj⟩) $$ HR
  icases HS with ⟨#HIs, #Hrs⟩
  ihave HV := (records_recv X K (tgt c ⟨j, hj⟩) c) $$ HR
  icases HV with ⟨#HIv, #Hrv⟩
  unfold rowPts slotPts
  iapply (Rounds.wp_send_pointsTo 𝒱₀ EX (exch X) (c : Thread nD τ) none (κ₁ := K (c, ixSend ⟨j, hj⟩)) (κ₂ := K (tgt c ⟨j, hj⟩, ixRecv c))
    (c' := (tgt c ⟨j, hj⟩ : Thread nD τ)) (src := rowM (tgt c ⟨j, hj⟩)) (dst := slotM c)
    (sS := .dma (sendS ⟨j, hj⟩)) (sem := .dma (recvS c)) (r₁ := 0) (r₂ := 0) (d₁ := 0) (d₂ := 0) (fd := fn) (q := fullShare) (fs := X c)
    (by rw [duties_send]; exact Finset.mem_singleton_self _) (by rw [duties_recv X _ _ (tgt_ne c ⟨j, hj⟩).symm]; exact Finset.mem_singleton_self _)
    () () N (slot_credit c) (amount_send X c ⟨j, hj⟩ 0) (amount_recv X (tgt c ⟨j, hj⟩) c 0) (orecv c (j + 1)) (orecv_peel c hj) (W := W)
    (by rw [payload_send]; unfold rowPts; exact BI.Entails.refl _)
    (by rw [payload_recv]; exact Entails.of_eq (slotPts_landed X (tgt c ⟨j, hj⟩) c fn))) $$ [HO Hrow Hslot HtS HtV]
  · isplitr; · iexact HIs
    isplitr; · iexact HIv
    isplitl [Hrow]; · iexact Hrow
    isplitl [Hslot]; · iexact Hslot
    isplitl [HO]; · iexact HO
    isplitl [HtS]; · iexact HtS
    isplitr; · iexact Hrs
    isplitl [HtV]; · iexact HtV
    iexact Hrv
  iintro ⟨Hc, HO⟩
  iapply Hk
  isplitl [HO]; · iexists W; iexact HO
  isplitl [Hrest]; · iexact Hrest
  isplitl [Hc]
  · unfold sendCred; iexact Hc
  iexact Hpast

theorem step_copy {src : Memref sig .tc .vmem S512x512 .fp8e5m2} (hs : src = rowM c)
    {dst : Memref sig .tc .vmem S512x512 .fp8e5m2} (hd : dst = slotM c)
    {h₁ : src.view.WordExact} {h₂ : dst.view.WordExact} {h₃ : DmaTarget.Typed .vmem (.dma locS) (.here dst : DmaTarget nD τ sig .tc .vmem S512x512 .fp8e5m2)}
    {α : Type} {Q : α → sProp 𝕄} {k : PUnit → Prog (TpuEff nD τ sig (Elt F) Λ₀ .tc) α} :
    iprop(records X K ∗ (rowPts X c c ∗ (∃ f, slotPts c c f) ∗ dutyTok EX (locCell c) 0 0))
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma locS) h₁ h₂ h₃) k) Q) := by
  subst hs hd
  iintro ⟨#HR, Hrow, ⟨%fn, Hslot⟩, Htok⟩ Hk
  ihave HS := (records_loc X K c) $$ HR
  icases HS with ⟨#HI, #Hr⟩
  unfold rowPts slotPts
  iapply (Rounds.wp_copy_pointsTo 𝒱₀ EX (exch X) (c : Thread nD τ) none (κ := K (c, 16)) (src := rowM c) (dst := slotM c) (sem := .dma locS) (r := 0) (d := 0) (fd := fn) (q := fullShare) (fs := X c)
    (by rw [duties_loc]; exact Finset.mem_singleton_self _) () N (slot_credit c) (amount_loc X c 0)
    (by rw [payload_loc, ← slotPts_landed X c c fn]; unfold slotPts rowPts; exact BI.Entails.refl _)) $$ [Hrow Hslot Htok]
  · isplitr; · iexact HI
    isplitl [Hrow]; · iexact Hrow
    isplitl [Hslot]; · iexact Hslot
    isplitl [Htok]; · iexact Htok
    iexact Hr
  iintro Hc
  iapply Hk; iexact Hc

omit [FloatOps F] in
/-- A transfer of a block counts the same whichever block it is. -/
theorem credit_eq (m : Memref sig .tc .vmem S512x512 .fp8e5m2) : m.view.dmaCredit = N := rfl

/-- A wait on one of the device's own cells when nothing is owed. -/
theorem step_wait {κ : ℕ} {q : DmaSem sig} {src dst : Memref sig .tc .vmem S512x512 .fp8e5m2}
    (he : (exch X).expect ((c : Thread nD τ), .dma q) 0 = N) {P : sProp 𝕄}
    (hp : bigSep ((exch X).duties ((c : Thread nD τ), .dma q) 0 \ ∅) (fun d => (exch X).payload ((c : Thread nD τ), .dma q) 0 d) = P)
    {h₁ : src.view.WordExact} {h₂ : dst.view.WordExact}
    {α : Type} {Q : α → sProp 𝕄} {k : PUnit → Prog (TpuEff nD τ sig (Elt F) Λ₀ .tc) α} :
    iprop(cellInv EX (exch X) κ ((c : Thread nD τ), .dma q)
        ∗ ((∃ W, owes (c : Thread nD τ) 0 W) ∗ atPos EX ((c : Thread nD τ), .dma q) 0 ∅ 0 ∗ cred (tallyAt ((c : Thread nD τ), .dma q) () N)))
      ⊢ iprop((((∃ W, owes (c : Thread nD τ) 0 W) ∗ atPos EX ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hp
  iintro ⟨#HI, ⟨%W, HO⟩, Hat, Hc⟩ Hk
  iapply (Rounds.wp_wait_rest_token 𝒱₀ EX (exch X) (c : Thread nD τ) none (κ := κ)
      (wpE_waitDma2_eq 𝒱₀ (c : Thread nD τ) none Set.univ) (Set.mem_univ _) () (O := 0) (W := W) (R := 0) (m := 0) (T := ∅)
      (by rw [Nat.zero_add, he, credit_eq])) $$ [Hc HO Hat]
  · isplitr; · iexact HI
    isplitl [Hc]; · rw [credit_eq]; iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iexact Hpay

theorem step_recv {j : ℕ} (hj : j < 7) {q : DmaSem sig} (hq : q = recvS (tgt c ⟨j, hj⟩))
    {src dst : Memref sig .tc .vmem S512x512 .fp8e5m2}
    {h₁ : src.view.WordExact} {h₂ : dst.view.WordExact} {α : Type} {Q : α → sProp 𝕄} {k : PUnit → Prog (TpuEff nD τ sig (Elt F) Λ₀ .tc) α} :
    iprop(records X K ∗ recvSt X c j)
      ⊢ iprop((recvSt X c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  unfold recvSt
  rw [rest_peel hj, past_push hj]
  unfold recvTok
  iintro ⟨#HR, HO, ⟨⟨Hat, Hc⟩, Hrest⟩, Hpast⟩ Hk
  ihave HV := (records_recv X K c (tgt c ⟨j, hj⟩)) $$ HR
  icases HV with ⟨#HI, #Hr⟩
  iapply (step_wait X c (κ := K (c, ixRecv (tgt c ⟨j, hj⟩))) (expect_recv X c _ (tgt_ne c ⟨j, hj⟩)) (rest_recv X c _ (tgt_ne c ⟨j, hj⟩))) $$ [HO Hat Hc]
  · isplitr; · iexact HI
    isplitl [HO]; · iexact HO
    isplitl [Hat] <;> iassumption
  iintro ⟨HO, Hat, Hs⟩
  iapply Hk
  isplitl [HO]; · iexact HO
  isplitl [Hrest]; · iexact Hrest
  isplitr [Hpast]
  · unfold recvDone; isplitl [Hat] <;> iassumption
  iexact Hpast

theorem step_back {j : ℕ} (hj : j < 7) {q : DmaSem sig} (hq : q = sendS ⟨j, hj⟩)
    {src dst : Memref sig .tc .vmem S512x512 .fp8e5m2}
    {h₁ : src.view.WordExact} {h₂ : dst.view.WordExact} {α : Type} {Q : α → sProp 𝕄} {k : PUnit → Prog (TpuEff nD τ sig (Elt F) Λ₀ .tc) α} :
    iprop(records X K ∗ backSt X c j)
      ⊢ iprop((backSt X c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  unfold backSt
  rw [rest_peel hj, past_push hj]
  unfold backTok
  iintro ⟨#HR, HO, ⟨⟨Hat, Hc⟩, Hrest⟩, Hpast⟩ Hk
  ihave HV := (records_send X K c ⟨j, hj⟩) $$ HR
  icases HV with ⟨#HI, #Hr⟩
  iapply (step_wait X c (κ := K (c, ixSend ⟨j, hj⟩)) (expect_send X c ⟨j, hj⟩) (rest_send X c ⟨j, hj⟩)) $$ [HO Hat Hc]
  · isplitr; · iexact HI
    isplitl [HO]; · iexact HO
    isplitl [Hat] <;> iassumption
  iintro ⟨HO, Hat, Hs⟩
  iapply Hk
  isplitl [HO]; · iexact HO
  isplitl [Hrest]; · iexact Hrest
  isplitr [Hpast]
  · unfold backDone; isplitl [Hat] <;> iassumption
  iexact Hpast

end Steps

end Cert.Exchange

end
-- ==== Proof.Exchange.lean ====
/-
# The exchange, in the pieces the kernel is printed in

Each piece is a run of the steps of `Steps`, at a symbolic device.
-/
module

public import proofs.«01_k».proof.Proof.Steps
public import proofs.«01_k».proof.Proof.Gen.KernelIdeal.Points
public import Idealize.ShloMosaic.Lib.WholeRead
public import Idealize.ShloMosaic.Lib.VecWindow

@[expose] public section

noncomputable section

namespace Cert.Exchange

open Cert.KernelIdeal Cert.KernelIdeal.Gen

open Idealize.ShloMosaic Idealize.ShloMosaic.Tactic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x512.Idx → Elt F .fp8e5m2) (K : Dev nD × Fin 17 → ℕ) (c : Dev nD)

abbrev x8Pts (f : S4096x512.Idx → Elt F .fp8e5m2) : sProp 𝕄 := (Memref.whole cc0_scratch0).view.loc (c : Thread nD τ) ↦{fullShare} f
abbrev xgPts (f : S8x512x512.Idx → Elt F .fp8e5m2) : sProp 𝕄 := (Memref.whole cc0_scratch1).view.loc (c : Thread nD τ) ↦{fullShare} f

theorem pay2_eq (v : Vec F S4096x512 .fp8e5m2) : k0_pay2 v = v := by
  unfold k0_pay2; simp only [shapeCast_self]

/-- The whole of the outgoing buffer, as the kernel's copy addresses it. -/
abbrev wholeR : Rect S4096x512 := Rect.unit (s := S4096x512) ![0, 0] S4096x512.size inb_S4096x512_S4096x512_0_0

/-! ## Between the runs of steps -/

theorem sigSt_intro (f : S8x512x512.Idx → Elt F .fp8e5m2) :
    iprop((∃ W, owes (c : Thread nD τ) (O₀ c) W) ∗ (bigSep Finset.univ fun o : Fin 7 => dutyTok EX (barCell (tgt c o)) 0 o.rev)
        ∗ bigSep Finset.univ fun o : Fin 7 => slotPts c (tgt c o) f)
      ⊢ sigSt (F := F) c 0 := by
  have hs (o : Fin 7) : (slotPts c (tgt c o) f : sProp 𝕄) ⊢ iprop(∃ f : S8x512x512.Idx → Elt F .fp8e5m2, slotPts c (tgt c o) f) := by
    iintro H; iexists f; iexact H
  have hs' : (bigSep Finset.univ fun o : Fin 7 => slotPts c (tgt c o) f : sProp 𝕄)
      ⊢ bigSep Finset.univ fun o : Fin 7 => iprop(∃ f : S8x512x512.Idx → Elt F .fp8e5m2, slotPts c (tgt c o) f) :=
    bigSep_mono fun o _ => hs o
  unfold sigSt sigTok O₀
  rw [rest_zero]
  simp only [bigSep_sep']
  iintro ⟨HO, Ht, Hs⟩
  isplitl [HO]; · iexact HO
  isplitl [Ht]; · iexact Ht
  iapply hs' $$ Hs

theorem sendSt_intro :
    iprop((∃ W, owes (c : Thread nD τ) (orecv c 0) W) ∗ (bigSep Finset.univ fun o => rowPts X c (tgt c o))
        ∗ (bigSep Finset.univ fun o => iprop(∃ f, slotPts (tgt c o) c f))
        ∗ bigSep Finset.univ fun o : Fin 7 => iprop(dutyTok EX (sendCell c o) 0 0 ∗ dutyTok EX (recvCell (tgt c o) c) 0 0))
      ⊢ sendSt X c 0 := by
  unfold sendSt sendTok
  rw [rest_zero, past_zero]
  simp only [bigSep_sep']
  iintro ⟨HO, Hr, Hs, Ht, Ht'⟩
  isplitl [HO]; · iexact HO
  isplitl [Hr Hs Ht Ht']
  · isplitl [Hr Hs]
    · isplitl [Hr] <;> iassumption
    · isplitl [Ht] <;> iassumption
  · iempintro

theorem sendSt_elim : sendSt X c 7 ⊢ iprop((∃ W, owes (c : Thread nD τ) 0 W) ∗ bigSep Finset.univ (sendCred (F := F) c)) := by
  unfold sendSt
  rw [past_seven, orecv_seven]
  iintro ⟨HO, -, Hc⟩
  isplitl [HO] <;> iassumption

theorem recvSt_intro : iprop((∃ W, owes (c : Thread nD τ) 0 W) ∗ bigSep Finset.univ (recvTok (F := F) c)) ⊢ recvSt X c 0 := by
  unfold recvSt
  rw [rest_zero, past_zero]
  iintro ⟨HO, Hr⟩
  isplitl [HO]; · iexact HO
  isplitl [Hr]; · iexact Hr
  iempintro

theorem backSt_intro : iprop(recvSt X c 7 ∗ bigSep Finset.univ (backTok (F := F) c)) ⊢ iprop(backSt X c 0 ∗ bigSep Finset.univ (recvDone X c)) := by
  unfold recvSt backSt
  rw [past_seven, rest_zero, past_zero]
  iintro ⟨⟨HO, -, Hd⟩, Hb⟩
  isplitl [HO Hb]
  · isplitl [HO]; · iexact HO
    isplitl [Hb]; · iexact Hb
    iempintro
  · iexact Hd

theorem backSt_elim : backSt X c 7 ⊢ iprop((∃ W, owes (c : Thread nD τ) 0 W) ∗ bigSep Finset.univ (backDone X c)) := by
  unfold backSt
  rw [past_seven]
  iintro ⟨HO, -, Hb⟩
  isplitl [HO] <;> iassumption

/-! ## The pieces -/

variable (i : grid0.Coords) (arg1 : Memref sig .tc .vmem S4096x512 .fp8e5m2) (harg1 : arg1.IsWhole)
  (arg2 : Memref sig .tc .vmem S4096x512 .fp8e5m2) (harg2 : arg2.IsWhole) (arg3 : Memref sig .tc .smem S1 .f32) (harg3 : arg3.IsWhole)
  (arg4 : Memref sig .tc .smem S1 .f32) (harg4 : arg4.IsWhole) (arg5 : Memref sig .tc .vmem S512x512 .f32) (harg5 : arg5.IsWhole)
  (v2 : BitVec 32) (h : k0_cond1 i = 1#1)

/-- The copy of the operand, and the signals to the first four peers. -/
theorem part1_run {Q : Sems sig S_ → sProp 𝕄} :
    iprop(records X K ∗ (owns (c : Thread nD τ) arg1 fullShare (X c) ∗ (∃ f, x8Pts c f) ∗ sigSt c 0))
      ⊢ iprop(((owns (c : Thread nD τ) arg1 fullShare (X c) ∗ x8Pts c (X c) ∗ sigSt c 4) -∗ Q (SemArray.scalar (sig.barrier 0 rfl)))
          -∗ wp frame (wpE (defs₀ (F := F)) 𝒱₀ (c : Thread nD τ) none) Set.univ
            (k0_part1 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h) Q) := by
  simp only [k0_part1_eq_skeleton]; unfold k0_part1_skel
  simp only [semSignalWord, semWaitWord, Prog.lift, Prog.bind_op, Prog.bind_ret, Prog.pure_eq_ret]
  unfold owns
  iintro ⟨#HR, ⟨%f1, %hf1, H1⟩, ⟨%f6, H6⟩, Hs⟩ Hk
  obtain rfl := harg1.eq_unread hf1
  iapply (wp_load 𝒱₀ (c : Thread nD τ) none Set.univ (m := arg1) (View.setOn_subset_set _ _)) $$ H1; iintro H1
  iapply (wp_load 𝒱₀ (c : Thread nD τ) none Set.univ (m := x8M) (Finset.subset_univ _)) $$ H6; iintro H6
  iapply (wp_store 𝒱₀ (c : Thread nD τ) none Set.univ (m := x8M) (r := wholeR) (Mk := Finset.univ) (Finset.subset_univ _)) $$ H6; iintro H6
  have e : (x8M.access wholeR : View sig .tc _ _ _).write (Elt F) f6 (k0_pay2 (arg1.view.readAt (Elt F) wholeR.toLoadRect (harg1.unread (X c)))) Finset.univ = X c := by
    rw [pay2_eq]
    refine (Memref.write_access_unit_zero_univ (Elt F) cc0_scratch0 (by funext a; fin_cases a <;> rfl) _ _ _).trans ?_
    funext y
    exact (harg1.readAt_unread (X c) wholeR.toLoadRect y).trans (congrArg (X c) (Rect.emb_unit_full (s := S4096x512) (off := ![0, 0]) _ y))
  rw [e]
  iapply (step_signal X K c (j := 0) (by decide) _ (Fin.ext (k0_dev1_eq c)) rfl) $$ [Hs]
  · isplitr; · iexact HR
    iexact Hs
  iintro Hs
  iapply (step_signal X K c (j := 1) (by decide) _ (Fin.ext (k0_dev2_eq c)) rfl) $$ [Hs]
  · isplitr; · iexact HR
    iexact Hs
  iintro Hs
  iapply (step_signal X K c (j := 2) (by decide) _ (Fin.ext (k0_dev3_eq c)) rfl) $$ [Hs]
  · isplitr; · iexact HR
    iexact Hs
  iintro Hs
  iapply (step_signal X K c (j := 3) (by decide) _ (Fin.ext (k0_dev4_eq c)) rfl) $$ [Hs]
  · isplitr; · iexact HR
    iexact Hs
  iintro Hs
  sl_step
  iapply Hk
  isplitl [H1]
  · iexists _; isplitr; swap
    · iexact H1
    · ipureintro; exact hf1
  isplitl [H6] <;> iassumption

/-- The last three signals, the wait at the barrier, and the first transfer. -/
theorem part2_run {Q : PUnit → sProp 𝕄} :
    iprop(records X K ∗ (levAts L lv ∗ sigSt c 4 ∗ cred (tallyAt (barCell c) () 7) ∗ atPos EX (barCell c) 0 ∅ 0
        ∗ (bigSep Finset.univ fun o => rowPts X c (tgt c o))
        ∗ bigSep Finset.univ fun o : Fin 7 => iprop(dutyTok EX (sendCell c o) 0 0 ∗ dutyTok EX (recvCell (tgt c o) c) 0 0)))
      ⊢ iprop(((atPos EX (barCell c) 1 ∅ 0 ∗ sendSt X c 1) -∗ Q ⟨⟩)
          -∗ wp frame (wpE (defs₀ (F := F)) 𝒱₀ (c : Thread nD τ) none) Set.univ
            (k0_part2 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h (SemArray.scalar (sig.barrier 0 rfl))) Q) := by
  simp only [k0_part2_eq_skeleton]; unfold k0_part2_skel
  simp only [semSignalWord, semWaitWord, Prog.lift, Prog.bind_op, Prog.bind_ret, Prog.pure_eq_ret]
  iintro ⟨#HR, #Hlev, Hs, Hcr, Hat, Hrows, Htoks⟩ Hk
  iapply (step_signal X K c (j := 4) (by decide) _ (Fin.ext (k0_dev5_eq c)) rfl) $$ [Hs]
  · isplitr; · iexact HR
    iexact Hs
  iintro Hs
  iapply (step_signal X K c (j := 5) (by decide) _ (Fin.ext (k0_dev6_eq c)) rfl) $$ [Hs]
  · isplitr; · iexact HR
    iexact Hs
  iintro Hs
  iapply (step_signal X K c (j := 6) (by decide) _ (Fin.ext (k0_dev7_eq c)) rfl) $$ [Hs]
  · isplitr; · iexact HR
    iexact Hs
  iintro Hs
  iapply (step_barrier X K c rfl) $$ [Hs Hcr Hat]
  · isplitr; · iexact HR
    isplitr; · iexact Hlev
    isplitl [Hs]; · iexact Hs
    isplitl [Hcr] <;> iassumption
  iintro ⟨HO, Hat, Hslots⟩
  ihave Hs := (sendSt_intro X c) $$ [HO Hrows Hslots Htoks]
  · isplitl [HO]; · iexact HO
    isplitl [Hrows]; · iexact Hrows
    isplitl [Hslots] <;> iassumption
  iapply (step_send X K c (j := 0) (by decide) _ (Fin.ext (k0_dev8_eq c)) (rowM_of (tgt c 0) (k0_off3_eq c 0)) (slotM_of c (k0_off2_eq c)) rfl (recvS_of c (k0_off1_eq c))) $$ [Hs]
  · isplitr; · iexact HR
    iexact Hs
  iintro Hs
  sl_step
  iapply Hk
  isplitl [Hat] <;> iassumption

/-- The next three transfers, -/
theorem part3_run {Q : (_ : BitVec 32) ×' BitVec 32 → sProp 𝕄} :
    iprop(records X K ∗ (sendSt X c 1))
      ⊢ iprop(((sendSt X c 4) -∗ ∀ v, Q v)
          -∗ wp frame (wpE (defs₀ (F := F)) 𝒱₀ (c : Thread nD τ) none) Set.univ
            (k0_part3 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h) Q) := by
  simp only [k0_part3_eq_skeleton]; unfold k0_part3_skel
  simp only [semSignalWord, semWaitWord, Prog.lift, Prog.bind_op, Prog.bind_ret, Prog.pure_eq_ret]
  iintro ⟨#HR, Hs⟩ Hk
  iapply (step_send X K c (j := 1) (by decide) _ (Fin.ext (k0_dev9_eq c)) (rowM_of (tgt c 1) (k0_off3_eq c 1)) (slotM_of c (k0_off2_eq c)) rfl (recvS_of c (k0_off1_eq c))) $$ [Hs]
  · isplitr; · iexact HR
    iexact Hs
  iintro Hs
  iapply (step_send X K c (j := 2) (by decide) _ (Fin.ext (k0_dev10_eq c)) (rowM_of (tgt c 2) (k0_off3_eq c 2)) (slotM_of c (k0_off2_eq c)) rfl (recvS_of c (k0_off1_eq c))) $$ [Hs]
  · isplitr; · iexact HR
    iexact Hs
  iintro Hs
  iapply (step_send X K c (j := 3) (by decide) _ (Fin.ext (k0_dev11_eq c)) (rowM_of (tgt c 3) (k0_off3_eq c 3)) (slotM_of c (k0_off2_eq c)) rfl (recvS_of c (k0_off1_eq c))) $$ [Hs]
  · isplitr; · iexact HR
    iexact Hs
  iintro Hs
  sl_step
  iapply Hk $$ [Hs]
  iexact Hs

/-- and the last three. -/
theorem part4_run {a b : BitVec 32} {Q : PUnit → sProp 𝕄} :
    iprop(records X K ∗ (sendSt X c 4))
      ⊢ iprop(((sendSt X c 7) -∗ Q ⟨⟩)
          -∗ wp frame (wpE (defs₀ (F := F)) 𝒱₀ (c : Thread nD τ) none) Set.univ
            (k0_part4 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h a b) Q) := by
  simp only [k0_part4_eq_skeleton]; unfold k0_part4_skel
  simp only [semSignalWord, semWaitWord, Prog.lift, Prog.bind_op, Prog.bind_ret, Prog.pure_eq_ret]
  iintro ⟨#HR, Hs⟩ Hk
  iapply (step_send X K c (j := 4) (by decide) _ (Fin.ext (k0_dev12_eq c)) (rowM_of (tgt c 4) (k0_off3_eq c 4)) (slotM_of c (k0_off2_eq c)) rfl (recvS_of c (k0_off1_eq c))) $$ [Hs]
  · isplitr; · iexact HR
    iexact Hs
  iintro Hs
  iapply (step_send X K c (j := 5) (by decide) _ (Fin.ext (k0_dev13_eq c)) (rowM_of (tgt c 5) (k0_off3_eq c 5)) (slotM_of c (k0_off2_eq c)) rfl (recvS_of c (k0_off1_eq c))) $$ [Hs]
  · isplitr; · iexact HR
    iexact Hs
  iintro Hs
  iapply (step_send X K c (j := 6) (by decide) _ (Fin.ext (k0_dev14_eq c)) (rowM_of (tgt c 6) (k0_off3_eq c 6)) (slotM_of c (k0_off2_eq c)) rfl (recvS_of c (k0_off1_eq c))) $$ [Hs]
  · isplitr; · iexact HR
    iexact Hs
  iintro Hs
  sl_step
  iapply Hk
  iexact Hs

/-- The copy of the device's own row block and the wait for it; the first two arrivals. -/
theorem part5_run {Q : (_ : BitVec 32) ×' BitVec 32 → sProp 𝕄} :
    iprop(records X K ∗ ((rowPts X c c ∗ (∃ f, slotPts c c f) ∗ dutyTok EX (locCell c) 0 0) ∗ atPos EX (locCell c) 0 ∅ 0
        ∗ (∃ W, owes (c : Thread nD τ) 0 W) ∗ bigSep Finset.univ (recvTok c)))
      ⊢ iprop(((atPos EX (locCell c) 1 ∅ 0 ∗ slotPts c c (gath X c) ∗ rowPts X c c ∗ recvSt X c 2) -∗ ∀ v, Q v)
          -∗ wp frame (wpE (defs₀ (F := F)) 𝒱₀ (c : Thread nD τ) none) Set.univ
            (k0_part5 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h) Q) := by
  simp only [k0_part5_eq_skeleton]; unfold k0_part5_skel
  simp only [semSignalWord, semWaitWord, Prog.lift, Prog.bind_op, Prog.bind_ret, Prog.pure_eq_ret]
  iintro ⟨#HR, Hcp, Hat, HO, Hrecv⟩ Hk
  iapply (step_copy X K c (rowM_of c (k0_off4_eq c)) (slotM_of c (k0_off2_eq c))) $$ [Hcp]
  · isplitr; · iexact HR
    iexact Hcp
  iintro Hcr
  ihave HRl := (records_loc X K c) $$ HR
  icases HRl with ⟨HI, -⟩
  iapply (step_wait X c (q := locS) (expect_loc X c) (rest_loc X c)) $$ [HI HO Hat Hcr]
  · isplitl [HI]; · iexact HI
    isplitl [HO]; · iexact HO
    isplitl [Hat] <;> iassumption
  iintro ⟨HO, Hat, Hslot, Hrow⟩
  ihave Hs := (recvSt_intro X c) $$ [HO Hrecv]
  · isplitl [HO] <;> iassumption
  iapply (step_recv X K c (j := 0) (by decide) (recvS_of (tgt c 0) (k0_off5_eq c 0))) $$ [Hs]
  · isplitr; · iexact HR
    iexact Hs
  iintro Hs
  iapply (step_recv X K c (j := 1) (by decide) (recvS_of (tgt c 1) (k0_off5_eq c 1))) $$ [Hs]
  · isplitr; · iexact HR
    iexact Hs
  iintro Hs
  sl_step
  iapply Hk $$ [Hat Hslot Hrow Hs]
  isplitl [Hat]; · iexact Hat
  isplitl [Hslot]; · iexact Hslot
  isplitl [Hrow] <;> iassumption

/-- Three more arrivals, -/
theorem part6_run {a b : BitVec 32} {Q : PUnit → sProp 𝕄} :
    iprop(records X K ∗ (recvSt X c 2))
      ⊢ iprop(((recvSt X c 5) -∗ Q ⟨⟩)
          -∗ wp frame (wpE (defs₀ (F := F)) 𝒱₀ (c : Thread nD τ) none) Set.univ
            (k0_part6 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h a b) Q) := by
  simp only [k0_part6_eq_skeleton]; unfold k0_part6_skel
  simp only [semSignalWord, semWaitWord, Prog.lift, Prog.bind_op, Prog.bind_ret, Prog.pure_eq_ret]
  iintro ⟨#HR, Hs⟩ Hk
  iapply (step_recv X K c (j := 2) (by decide) (recvS_of (tgt c 2) (k0_off5_eq c 2))) $$ [Hs]
  · isplitr; · iexact HR
    iexact Hs
  iintro Hs
  iapply (step_recv X K c (j := 3) (by decide) (recvS_of (tgt c 3) (k0_off5_eq c 3))) $$ [Hs]
  · isplitr; · iexact HR
    iexact Hs
  iintro Hs
  iapply (step_recv X K c (j := 4) (by decide) (recvS_of (tgt c 4) (k0_off5_eq c 4))) $$ [Hs]
  · isplitr; · iexact HR
    iexact Hs
  iintro Hs
  sl_step
  iapply Hk
  iexact Hs

/-- the last two, and the first three transfers' own completions. -/
theorem part7_run {Q : PUnit → sProp 𝕄} :
    iprop(records X K ∗ (recvSt X c 5 ∗ bigSep Finset.univ (backTok c)))
      ⊢ iprop(((backSt X c 3 ∗ bigSep Finset.univ (recvDone X c)) -∗ Q ⟨⟩)
          -∗ wp frame (wpE (defs₀ (F := F)) 𝒱₀ (c : Thread nD τ) none) Set.univ
            (k0_part7 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 c v2 h) Q) := by
  simp only [k0_part7_eq_skeleton]; unfold k0_part7_skel
  simp only [semSignalWord, semWaitWord, Prog.lift, Prog.bind_op, Prog.bind_ret, Prog.pure_eq_ret]
  iintro ⟨#HR, Hs, Hback⟩ Hk
  iapply (step_recv X K c (j := 5) (by decide) (recvS_of (tgt c 5) (k0_off5_eq c 5))) $$ [Hs]
  · isplitr; · iexact HR
    iexact Hs
  iintro Hs
  iapply (step_recv X K c (j := 6) (by decide) (recvS_of (tgt c 6) (k0_off5_eq c 6))) $$ [Hs]
  · isplitr; · iexact HR
    iexact Hs
  iintro Hs
  ihave H := (backSt_intro X c) $$ [Hs Hback]
  · isplitl [Hs] <;> iassumption
  icases H with ⟨Hs, Hdone⟩
  iapply (step_back X K c (j := 0) (by decide) rfl) $$ [Hs]
  · isplitr; · iexact HR
    iexact Hs
  iintro Hs
  iapply (step_back X K c (j := 1) (by decide) rfl) $$ [Hs]
  · isplitr; · iexact HR
    iexact Hs
  iintro Hs
  iapply (step_back X K c (j := 2) (by decide) rfl) $$ [Hs]
  · isplitr; · iexact HR
    iexact Hs
  iintro Hs
  sl_step
  iapply Hk
  isplitl [Hs] <;> iassumption

end Cert.Exchange
-- ==== Proof.Body.lean ====
/-
# The kernel's body

At the first grid point the body exchanges the row blocks and then computes; at the later points it
only computes. The computation is one run for all points, from the state the exchange leaves.
-/
module

public import proofs.«01_k».proof.Proof.Exchange
public import proofs.«01_k».proof.Proof.Gen.KernelIdeal.Points
public import Idealize.ShloMosaic.Lib.WholeRead
public import Idealize.ShloMosaic.Lib.VecWindow

@[expose] public section

noncomputable section

namespace Cert.Exchange

open Cert.KernelIdeal Cert.KernelIdeal.Gen

open Idealize.ShloMosaic Idealize.ShloMosaic.Tactic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's seventeen cells by their roles -/

def emSend : Fin 7 ↪ Fin 17 := ⟨ixSend, by decide⟩
def emRecv : Dev nD ↪ Fin 17 := ⟨ixRecv, by decide⟩

omit [FloatOps F] in
theorem cells_eq (Φ : SemLoc sig → sProp 𝕄) : (bigSep Finset.univ fun i : Fin 17 => Φ (csem i))
    = iprop(Φ (.reg barS) ∗ Φ (.dma locS) ∗ (bigSep Finset.univ fun o => Φ (.dma (sendS o))) ∗ bigSep Finset.univ fun e => Φ (.dma (recvS e))) := by
  rw [show (Finset.univ : Finset (Fin 17)) = insert 0 (insert 16 ((Finset.univ.map emSend) ∪ (Finset.univ.map emRecv))) by decide +kernel,
    bigSep_insert (by decide +kernel), bigSep_insert (by decide +kernel), bigSep_union (by decide +kernel), bigSep_map, bigSep_map, csem_bar, csem_loc]
  simp only [emSend, emRecv, Function.Embedding.coeFn_mk, csem_send, csem_recv]
  rfl

/-! ## What a grid point stores -/

def slotOf (g : S8x512x512.Idx → Elt F .fp8e5m2) (k : Dev nD) : S1x512x512.Idx → Elt F .fp8e5m2 := fun y => g ((slotR k).emb y)
def rowsOf (w : S4096x512.Idx → Elt F .fp8e5m2) (k : Dev nD) : S512x512.Idx → Elt F .fp8e5m2 := fun y => w ((rowR k).emb y)

/-- The block a grid point computes from the gathered buffer, its block of the right operand and the two scales. -/
def tile (g : S8x512x512.Idx → Elt F .fp8e5m2) (w : S4096x512.Idx → Elt F .fp8e5m2) (a b : S1.Idx → Elt F .f32) : S512x512.Idx → Elt F .f32 :=
  k0_pay1 (k0_pay6 (k0_pay3 (slotOf g 0) (rowsOf w 0) (slotOf g 1) (rowsOf w 1) (slotOf g 2) (rowsOf w 2)) (k0_pay4 (slotOf g 3)) (k0_pay5 (rowsOf w 3))
    (slotOf g 4) (rowsOf w 4) (slotOf g 5) (rowsOf w 5) (slotOf g 6) (rowsOf w 6) (slotOf g 7) (rowsOf w 7) (a (ix1 0)) (b (ix1 0))) k0_pay7

variable (X : Dev nD → S4096x512.Idx → Elt F .fp8e5m2) (c : Dev nD)

/-! ## Before and after the exchange -/

/-- The right to count a signal at each peer's barrier, and the transfers at both ends. -/
def tokens : sProp 𝕄 :=
  iprop((bigSep Finset.univ fun o : Fin 7 => dutyTok EX (barCell (tgt c o)) 0 o.rev)
    ∗ (bigSep Finset.univ fun o : Fin 7 => iprop(dutyTok EX (sendCell c o) 0 0 ∗ dutyTok EX (recvCell (tgt c o) c) 0 0))
    ∗ dutyTok EX (locCell c) 0 0)
/-- What the peers owe the device. -/
def credits : sProp 𝕄 :=
  iprop(cred (tallyAt (barCell c) () 7) ∗ bigSep Finset.univ fun o : Fin 7 => cred (tallyAt (recvCell c (tgt c o)) () N))
/-- The shared records and the device's part of them before the exchange. -/
def start : sProp 𝕄 :=
  iprop((∃ K, records X K) ∗ levAts L lv ∗ (bigSep Finset.univ fun i : Fin 17 => atPos EX (kcell (c, i)) 0 ∅ 0) ∗ tokens c ∗ credits c)

def semsZero : sProp 𝕄 := bigSep Finset.univ fun i : Fin 17 => semVal (kcell (c, i)) 0

/-- Both buffers and the debt before the exchange, -/
def fresh : sProp 𝕄 :=
  iprop(start X c ∗ (∃ f, x8Pts c f)
    ∗ (∃ f, xgPts c f) ∗ (∃ W, owes (c : Thread nD τ) (O₀ c) W))
/-- and after it. -/
def settled : sProp 𝕄 :=
  iprop(x8Pts c (X c) ∗ xgPts c (gath X c)
    ∗ semsZero c ∗ (∃ W, owes (c : Thread nD τ) 0 W))

/-! ## Closing the cells -/

/-- A cell of the device with no round left. -/
def spent (s : SemLoc sig) : sProp 𝕄 :=
  iprop(∃ R, ⌜∀ r, R ≤ r → (exch X).duties ((c : Thread nD τ), s) r = ∅⌝ ∗ atPos EX ((c : Thread nD τ), s) R ∅ 0)

omit [FloatOps F] in
theorem spent_of {s : SemLoc sig} : atPos EX ((c : Thread nD τ), s) 1 ∅ 0 ⊢ spent X c s := by
  unfold spent; iintro H; iexists 1; isplitr
  · ipureintro; exact duties_later X _
  · iexact H
omit [FloatOps F] in
theorem spent_self : atPos EX (recvCell c c) 0 ∅ 0 ⊢ spent X c (.dma (recvS c)) := by
  unfold spent; iintro H; iexists 0; isplitr
  · ipureintro; intro r _
    rcases Nat.eq_zero_or_pos r with rfl | h
    · exact duties_recv_self X c
    · exact duties_later X _ r h
  · iexact H

omit [FloatOps F] in
/-- After the exchange every cell is spent: all have had their one round, but for the receive cell of
    the device's own block, which has none. -/
theorem spent_all :
    iprop(atPos EX (barCell c) 1 ∅ 0 ∗ atPos EX (locCell c) 1 ∅ 0 ∗ (bigSep Finset.univ fun o : Fin 7 => atPos EX (sendCell c o) 1 ∅ 0)
        ∗ atPos EX (recvCell c c) 0 ∅ 0 ∗ (bigSep Finset.univ fun o : Fin 7 => atPos EX (recvCell c (tgt c o)) 1 ∅ 0))
      ⊢ bigSep Finset.univ fun i : Fin 17 => spent X c (csem i) := by
  rw [cells_eq (fun s => spent X c s), bigSep_peers c (fun e => spent X c (.dma (recvS e)))]
  exact BI.sep_mono (spent_of X c) (BI.sep_mono (spent_of X c) (BI.sep_mono (bigSep_mono fun o _ => spent_of X c)
    (BI.sep_mono (spent_self X c) (bigSep_mono fun o _ => spent_of X c))))

omit [FloatOps F] in
theorem close_cells (K : Dev nD × Fin 17 → ℕ) :
    iprop(records X K ∗ bigSep Finset.univ fun i : Fin 17 => spent X c (csem i)) ⊢ iprop(|={Set.univ}=> semsZero c) := by
  have h : ∀ i ∈ (Finset.univ : Finset (Fin 17)), iprop(records X K ∗ spent X c (csem i)) ⊢ iprop(|={Set.univ}=> semVal (kcell (c, i)) 0) := by
    intro i _
    iintro ⟨#HR, Hs⟩
    unfold spent
    icases Hs with ⟨%R, %hR, Hat⟩
    ihave Hc := (records_at X K (c, i)) $$ HR
    icases Hc with ⟨HI, -⟩
    iapply (Rounds.cell_close EX (exch X) (Set.mem_univ (K (c, i))) (fun h => h) (R := R) hR)
    isplitl [HI] <;> iassumption
  refine ((sep_mono_left (BI.bigSep_of_persistent (Finset.univ : Finset (Fin 17)) (records X K))).trans ?_).trans (bigSep_fupd _ _)
  rw [← bigSep_sep']
  exact bigSep_mono h

theorem x8_parts : (x8Pts c (X c) : sProp 𝕄) = iprop(rowPts X c c ∗ bigSep Finset.univ fun o : Fin 7 => rowPts X c (tgt c o)) :=
  (rows_eq X c).trans (bigSep_peers c _)
theorem xg_parts (f : S8x512x512.Idx → Elt F .fp8e5m2) :
    (xgPts c f : sProp 𝕄) = iprop(slotPts c c f ∗ bigSep Finset.univ fun o : Fin 7 => slotPts c (tgt c o) f) :=
  (slots_eq c f).trans (bigSep_peers c _)

/-- The state before the exchange, sorted by the step that uses each part. -/
theorem fresh_open : fresh X c ⊢ iprop((∃ K, records X K) ∗ levAts L lv ∗ (∃ f, x8Pts c f) ∗ (∃ f, slotPts c c f) ∗ sigSt c 0
    ∗ (cred (tallyAt (barCell c) () 7) ∗ atPos EX (barCell c) 0 ∅ 0) ∗ (dutyTok EX (locCell c) 0 0 ∗ atPos EX (locCell c) 0 ∅ 0)
    ∗ (bigSep Finset.univ fun o : Fin 7 => iprop(dutyTok EX (sendCell c o) 0 0 ∗ dutyTok EX (recvCell (tgt c o) c) 0 0))
    ∗ bigSep Finset.univ (recvTok c) ∗ (bigSep Finset.univ fun o : Fin 7 => atPos EX (sendCell c o) 0 ∅ 0) ∗ atPos EX (recvCell c c) 0 ∅ 0) := by
  unfold fresh start tokens credits
  rw [cells_eq (fun s => atPos EX ((c : Thread nD τ), s) 0 ∅ 0), bigSep_peers c (fun e => atPos EX (recvCell c e) 0 ∅ 0),
    show (recvTok c : Fin 7 → sProp 𝕄) = fun o => recvTok c o from rfl]
  unfold recvTok
  simp only [bigSep_sep', xg_parts]
  iintro ⟨⟨⟨%K, #HR⟩, #Hlev, ⟨HatB, HatL, HatS, HatR, HatRs⟩, ⟨Ht1, ⟨Ht2, Ht2'⟩, Ht3⟩, Hc1, Hc2⟩, H6, ⟨%f7, H7, H7'⟩, HO⟩
  isplitr; · iexists K; iexact HR
  isplitr; · iexact Hlev
  isplitl [H6]; · iexact H6
  isplitl [H7]; · iexists f7; iexact H7
  isplitl [HO Ht1 H7']
  · iapply (sigSt_intro c f7)
    isplitl [HO]; · iexact HO
    isplitl [Ht1] <;> iassumption
  isplitl [Hc1 HatB]; · isplitl [Hc1] <;> iassumption
  isplitl [Ht3 HatL]; · isplitl [Ht3] <;> iassumption
  isplitl [Ht2 Ht2']; · isplitl [Ht2] <;> iassumption
  isplitl [HatRs Hc2]; · isplitl [HatRs] <;> iassumption
  isplitl [HatS] <;> iassumption

theorem back_intro : iprop((bigSep Finset.univ fun o : Fin 7 => atPos EX (sendCell c o) 0 ∅ 0) ∗ bigSep Finset.univ (sendCred (F := F) c))
    ⊢ bigSep Finset.univ (backTok c) := by
  rw [show (backTok c : Fin 7 → sProp 𝕄) = fun o => backTok c o from rfl]
  unfold backTok
  rw [bigSep_sep']
  exact BI.Entails.refl _

/-- What the exchange leaves, put together again: both buffers whole, every cell closed. -/
theorem settle (K : Dev nD × Fin 17 → ℕ) :
    iprop(records X K ∗ atPos EX (barCell c) 1 ∅ 0 ∗ atPos EX (locCell c) 1 ∅ 0 ∗ atPos EX (recvCell c c) 0 ∅ 0
        ∗ rowPts X c c ∗ slotPts c c (gath X c) ∗ (∃ W, owes (c : Thread nD τ) 0 W)
        ∗ bigSep Finset.univ (backDone X c) ∗ bigSep Finset.univ (recvDone X c))
      ⊢ iprop(|={Set.univ}=> settled X c) := by
  rw [show (backDone X c : Fin 7 → sProp 𝕄) = fun o => backDone X c o from rfl,
    show (recvDone X c : Fin 7 → sProp 𝕄) = fun o => recvDone X c o from rfl]
  unfold settled backDone recvDone
  rw [bigSep_sep', bigSep_sep', x8_parts, xg_parts]
  iintro ⟨#HR, HatB, HatL, HatR, Hrow, Hself, HO, ⟨HatS, Hrows⟩, HatRs, Hslots⟩
  ihave Hsp := (spent_all X c) $$ [HatB HatL HatS HatR HatRs]
  · isplitl [HatB]; · iexact HatB
    isplitl [HatL]; · iexact HatL
    isplitl [HatS]; · iexact HatS
    isplitl [HatR] <;> iassumption
  imod (close_cells X c K) $$ [Hsp] with Hz
  · isplitr; · iexact HR
    iexact Hsp
  imodintro
  isplitl [Hrow Hrows]; · isplitl [Hrow] <;> iassumption
  isplitl [Hself Hslots]; · isplitl [Hself] <;> iassumption
  isplitl [Hz] <;> iassumption

theorem body_run (i : grid0.Coords) (arg1 : Memref sig .tc .vmem S4096x512 .fp8e5m2) (harg1 : arg1.IsWhole)
    (arg2 : Memref sig .tc .vmem S4096x512 .fp8e5m2) (harg2 : arg2.IsWhole) (arg3 : Memref sig .tc .smem S1 .f32) (harg3 : arg3.IsWhole)
    (arg4 : Memref sig .tc .smem S1 .f32) (harg4 : arg4.IsWhole) (arg5 : Memref sig .tc .vmem S512x512 .f32) (harg5 : arg5.IsWhole)
    (x1 : Vec F S4096x512 .fp8e5m2) (x2 x3 : Vec F S1 .f32) (S : sProp 𝕄) (Q : PUnit → sProp 𝕄)
    (hfirst : k0_cond1 i = 1#1 → S ⊢ fresh X c) (hlater : ¬ k0_cond1 i = 1#1 → S ⊢ settled X c) :
    iprop(S ∗ owns (c : Thread nD τ) arg1 fullShare (X c) ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(settled X c ∗ owns (c : Thread nD τ) arg1 fullShare (X c) ∗ owns (c : Thread nD τ) arg2 fullShare x1 ∗ owns (c : Thread nD τ) arg3 fullShare x2
            ∗ owns (c : Thread nD τ) arg4 fullShare x3 ∗ owns (c : Thread nD τ) arg5 fullShare (tile (gath X c) x1 x2 x3)) -∗ Q ⟨⟩))
      ⊢ wp frame (wpE (defs₀ (F := F)) 𝒱₀ (c : Thread nD τ) none) Set.univ
          (cc0_body i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4) Q := by
  simp only [cc0_body_eq_skeleton]; unfold cc0_body_skel
  rw [wp_bind]
  simp only [k0_part8_eq_skeleton]; unfold k0_part8_skel
  simp -zeta only [Prog.lift, Prog.bind_op, Prog.bind_ret, wp_deviceId]
  extract_lets jp
  -- the computation, from the state after the exchange
  have tail : iprop(settled X c ∗ owns (c : Thread nD τ) arg1 fullShare (X c) ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(settled X c ∗ owns (c : Thread nD τ) arg1 fullShare (X c) ∗ owns (c : Thread nD τ) arg2 fullShare x1 ∗ owns (c : Thread nD τ) arg3 fullShare x2
            ∗ owns (c : Thread nD τ) arg4 fullShare x3 ∗ owns (c : Thread nD τ) arg5 fullShare (tile (gath X c) x1 x2 x3)) -∗ Q ⟨⟩))
      ⊢ wp frame (wpE (defs₀ (F := F)) 𝒱₀ (c : Thread nD τ) none) Set.univ (jp ⟨⟩ >>= fun a => do
          let x ← k0_part9 i arg1 harg1 arg2 harg2 arg3 harg3 arg4 harg4 arg5 harg5 (Memref.whole cc0_scratch0) (Memref.isWhole_whole _)
            (Memref.whole cc0_scratch1) (Memref.isWhole_whole _) cc0_scratch2 cc0_scratch3 cc0_scratch4 a.fst a.2.fst a.2.snd
          let v62 ← Prog.lift (.load arg5 (Rect.unit (s := S512x512) ![0, 0] S512x512.size inb_S512x512_S512x512_0_0).toLoadRect (View.loadsAt_vmem h_S512x512))
          Prog.lift (.store arg5 (Rect.unit (s := S512x512) ![0, 0] S512x512.size inb_S512x512_S512x512_0_0) (k0_pay1 x.fst x.snd) Finset.univ
            (View.stores_vmem_bits_univ h_S512x512 rfl) (Or.inl rfl))) Q := by
    simp only [k0_part9_eq_skeleton]; unfold k0_part9_skel jp
    simp only [Prog.lift, Prog.bind_op, Prog.bind_ret, Prog.pure_eq_ret]
    unfold settled owns
    iintro ⟨⟨Hx8, Hxg, Hz, HO⟩, H1, ⟨%f1, %hf1, H2⟩, ⟨%f2, %hf2, H3⟩, ⟨%f3, %hf3, H4⟩, ⟨%d5, %f5, -, H5⟩, Hk⟩
    obtain rfl := harg2.eq_unread hf1; obtain rfl := harg3.eq_unread hf2; obtain rfl := harg4.eq_unread hf3
    sl_exec
    sl_step
    iapply Hk
    isplitl [Hx8 Hxg Hz HO]
    · isplitl [Hx8]; · iexact Hx8
      isplitl [Hxg]; · iexact Hxg
      isplitl [Hz] <;> iassumption
    isplitl [H1]; · iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; swap
    · iexact H5
    ipureintro
    funext y
    refine Eq.trans (congrArg _ (Rect.emb_unit_full (s := S512x512) (off := ![0, 0]) inb_S512x512_S512x512_0_0 y).symm) ?_
    rw [View.read_writes_cons_emb]
    have ha : body_run.sl.r c arg3 harg3 x2 = x2 (ix1 0) := (harg3.readAt_unread x2 _ _).trans (congrArg x2 (funext fun a => by fin_cases a; rfl))
    have hb : body_run.sl.r_1 c arg4 harg4 x3 = x3 (ix1 0) := (harg4.readAt_unread x3 _ _).trans (congrArg x3 (funext fun a => by fin_cases a; rfl))
    have hw : ∀ B : LoadRect S4096x512, View.readAt (Elt F) arg2.view B (harg2.unread x1) = fun y => x1 (B.idx y) :=
      fun B => funext fun y => harg2.readAt_unread x1 B y
    rw [ha, hb]
    simp only [hw]
    rfl
  by_cases hc : k0_cond1 i = 1#1
  · simp only [dif_pos hc, wp_deviceId]
    iintro ⟨HS, H1, Hargs⟩
    ihave HF := (hfirst hc) $$ HS
    ihave HF := (fresh_open X c) $$ HF
    icases HF with ⟨⟨%K, #HR⟩, #Hlev, H6, Hself, Hs, ⟨Hc1, HatB⟩, ⟨Ht3, HatL⟩, Ht2, HRs, HatS, HatR⟩
    irw [wp_bind]
    iapply (part1_run X K c i arg1 harg1 arg2 harg2 arg3 harg3 arg4 harg4 arg5 harg5 _ hc) $$ [H1 H6 Hs]
    · isplitr; · iexact HR
      isplitl [H1]; · iexact H1
      isplitl [H6] <;> iassumption
    iintro ⟨H1, H6, Hs⟩
    ihave H6 := (BIBase.Entails.of_eq (x8_parts X c)) $$ H6
    icases H6 with ⟨Hrow, Hrows⟩
    irw [wp_bind]
    iapply (part2_run X K c i arg1 harg1 arg2 harg2 arg3 harg3 arg4 harg4 arg5 harg5 _ hc) $$ [Hs Hc1 HatB Hrows Ht2]
    · isplitr; · iexact HR
      isplitr; · iexact Hlev
      isplitl [Hs]; · iexact Hs
      isplitl [Hc1]; · iexact Hc1
      isplitl [HatB]; · iexact HatB
      isplitl [Hrows] <;> iassumption
    iintro ⟨HatB, Hs⟩
    irw [wp_bind]
    iapply (part3_run X K c i arg1 harg1 arg2 harg2 arg3 harg3 arg4 harg4 arg5 harg5 _ hc) $$ [Hs]
    · isplitr; · iexact HR
      iexact Hs
    iintro Hs %v
    irw [wp_bind]
    iapply (part4_run X K c i arg1 harg1 arg2 harg2 arg3 harg3 arg4 harg4 arg5 harg5 _ hc) $$ [Hs]
    · isplitr; · iexact HR
      iexact Hs
    iintro Hs
    ihave H := (sendSt_elim X c) $$ Hs
    icases H with ⟨HO, Hcr⟩
    irw [wp_bind]
    iapply (part5_run X K c i arg1 harg1 arg2 harg2 arg3 harg3 arg4 harg4 arg5 harg5 _ hc) $$ [Hrow Hself Ht3 HatL HO HRs]
    · isplitr; · iexact HR
      isplitl [Hrow Hself Ht3]
      · isplitl [Hrow]; · iexact Hrow
        isplitl [Hself]; · iexact Hself
        iexact Ht3
      isplitl [HatL]; · iexact HatL
      isplitl [HO] <;> iassumption
    iintro ⟨HatL, Hself, Hrow, Hs⟩ %v'
    irw [wp_bind]
    iapply (part6_run X K c i arg1 harg1 arg2 harg2 arg3 harg3 arg4 harg4 arg5 harg5 _ hc) $$ [Hs]
    · isplitr; · iexact HR
      iexact Hs
    iintro Hs
    irw [wp_bind]
    iapply (part7_run X K c i arg1 harg1 arg2 harg2 arg3 harg3 arg4 harg4 arg5 harg5 _ hc) $$ [Hs HatS Hcr]
    · isplitr; · iexact HR
      isplitl [Hs]; · iexact Hs
      iapply (back_intro c)
      isplitl [HatS] <;> iassumption
    iintro ⟨Hs, Hdone⟩
    iapply (step_back X K c (j := 3) (by decide) rfl) $$ [Hs]
    · isplitr; · iexact HR
      iexact Hs
    iintro Hs
    iapply (step_back X K c (j := 4) (by decide) rfl) $$ [Hs]
    · isplitr; · iexact HR
      iexact Hs
    iintro Hs
    iapply (step_back X K c (j := 5) (by decide) rfl) $$ [Hs]
    · isplitr; · iexact HR
      iexact Hs
    iintro Hs
    iapply (step_back X K c (j := 6) (by decide) rfl) $$ [Hs]
    · isplitr; · iexact HR
      iexact Hs
    iintro Hs
    ihave H := (backSt_elim X c) $$ Hs
    icases H with ⟨HO, Hback⟩
    imod (settle X c K) $$ [HatB HatL HatR Hrow Hself HO Hback Hdone] with HF
    · isplitr; · iexact HR
      isplitl [HatB]; · iexact HatB
      isplitl [HatL]; · iexact HatL
      isplitl [HatR]; · iexact HatR
      isplitl [Hrow]; · iexact Hrow
      isplitl [Hself]; · iexact Hself
      isplitl [HO]; · iexact HO
      isplitl [Hback] <;> iassumption
    irw [← wp_bind]
    iapply tail
    isplitl [HF]; · iexact HF
    isplitl [H1] <;> iassumption
  · simp only [dif_neg hc, wp_deviceId]
    irw [← wp_bind]
    iintro ⟨HS, Hargs⟩
    ihave HF := (hlater hc) $$ HS
    iapply tail
    isplitl [HF] <;> iassumption

end Cert.Exchange
-- ==== Proof.Product.lean ====
/-
# The scaled product, whole and in blocks

Over the extended reals: the function both programs compute, and a device's block of it. A block is a
sum of eight products, each 512 deep, where the whole product is one sum 4096 deep.
-/
module

public import proofs.«01_k».proof.Proof.Body
public import Idealize.ShloMosaic.Lib.MatmulPlain
public import Idealize.ShloMosaic.Lib.Pipeline.ValueKit

@[expose] public section

noncomputable section

namespace Cert.Exchange

open Cert.KernelIdeal Cert.KernelIdeal.Gen

open Idealize.ShloMosaic hiding ix1 ix2 ix3
open Idealize.ShloMosaic.ValueIdx
open scoped BigOperators

/-- The rows of a left operand times the columns of a right one, scaled by the product of two scalars
    and cut off below at zero. -/
def result (x : (⟨2, ![4096, 4096]⟩ : Shape).Idx → EReal) (w : (⟨2, ![4096, 8192]⟩ : Shape).Idx → EReal)
    (a b : (⟨1, ![1]⟩ : Shape).Idx → EReal) : (⟨2, ![4096, 8192]⟩ : Shape).Idx → EReal := fun i =>
  max ((∑ l : Fin 4096, x (ix2 (n0 := 4096) (n1 := 4096) (i 0) l) * w (ix2 (n0 := 4096) (n1 := 8192) l (i 1))) * (a (ix1 0) * b (ix1 0))) 0

/-- One 512-deep product of a slot with a row block, at a row and a column. -/
theorem part_apply (s : Vec Ideal S1x512x512 .fp8e5m2) (y : Vec Ideal S512x512 .fp8e5m2) (r q : Fin 512) :
    matmul (F := Ideal) (φ₁ := .fp8e5m2) (φ₂ := .fp8e5m2) dot_S512x512_S512x512_S512x512_1_0_0_1_n_n none
        (shapeCast S512x512 s shapeCasts_S1x512x512_S512x512) (shapeCast S512x512 y shapeCasts_S512x512_S512x512)
        (constant S512x512 .f32 0x00000000#32) (ix2 r q)
      = (∑ k : Fin 512, s (ix3 (0 : Fin 1) r k) * y (ix2 k q) : EReal) := by
  refine (Ideal.matmul_plain_apply (M := 512) (K := 512) (N := 512) none _ _ _ r q).trans ?_
  rw [show (constant (F := Ideal) S512x512 .f32 0x00000000#32) (ix2 r q) = 0 from Ideal.ofBits_zero_f32, zero_add]
  refine Finset.sum_congr rfl fun k _ => ?_
  rw [shapeCast_self, shapeCast_1ab_ab_apply]

/-- Slot `e` at a row and a column, -/
theorem slotOf_apply {F : FTy → Type} [FloatOps F] (g : S8x512x512.Idx → Elt F .fp8e5m2) (e : Dev nD) (r k : Fin 512) :
    slotOf g e (ix3 (0 : Fin 1) r k) = g (ix3 (n0 := 8) (n1 := 512) (n2 := 512) e r k) := by
  refine congrArg g (funext fun d => ?_)
  match d with
  | ⟨0, _⟩ => apply Fin.ext; show e.val + 1 * 0 = e.val; omega
  | ⟨1, _⟩ => apply Fin.ext; show 0 + 1 * r.val = r.val; omega
  | ⟨2, _⟩ => apply Fin.ext; show 0 + 1 * k.val = k.val; omega

/-- and row block `e`. -/
theorem rowsOf_apply {F : FTy → Type} [FloatOps F] (w : S4096x512.Idx → Elt F .fp8e5m2) (e : Dev nD) (k q : Fin 512) :
    rowsOf w e (ix2 k q) = w (ix2 (n0 := 4096) (n1 := 512) ⟨512 * e.val + k.val, by have h : e.val < 8 := e.isLt; omega⟩ q) :=
  congrArg w (row_emb e k q)

/-- What a grid point stores, at a row and a column: the eight products summed, scaled, cut off at zero. -/
theorem tile_apply (g : S8x512x512.Idx → Elt Ideal .fp8e5m2) (w : S4096x512.Idx → Elt Ideal .fp8e5m2) (a b : S1.Idx → Elt Ideal .f32) (r q : Fin 512) :
    tile g w a b (ix2 r q)
      = max ((∑ e : Fin 8, ∑ k : Fin 512, slotOf g e (ix3 (0 : Fin 1) r k) * rowsOf w e (ix2 k q)) * (a (ix1 0) * b (ix1 0))) 0 := by
  unfold tile k0_pay1 k0_pay6 k0_pay3 k0_pay4 k0_pay5 k0_pay7
  simp only [maximumf, mulf, addf, broadcast, Ideal.maximumf_def, Ideal.mulf_def, Ideal.addf_def, Ideal.scalar_mulf_def, part_apply]
  rw [show (Scalar.ofBits (F := Ideal) .f32 0x00000000#32) = 0 from Ideal.ofBits_zero_f32, zero_add, Fin.sum_univ_eight]

end Cert.Exchange

end
-- ==== Proof.Data.lean ====
/-
# The body at every grid point

What each window's staging buffer holds before and after a grid point, and what is carried from point
to point: before the first point the exchange's shared state and both scratch buffers at some contents,
after it the copied operand, the gathered operand and every semaphore at zero.
-/
module

public import proofs.«01_k».proof.Proof.Body
public import proofs.«01_k».proof.Proof.Gen.KernelIdeal.Frame

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's columns of the left operand, as launched. -/
def xs (c : Dev nD) : S4096x512.Idx → Elt F .fp8e5m2 := iblk m c 0 t0_0

theorem xs_eq (c : Dev nD) (t : Fin cfg0.N) : iblk m c 0 t = xs m c := rfl

/-- The block of the result that a device stores at a grid point. -/
def outTile (c : Dev nD) (t : Fin cfg0.N) : S512x512.Idx → Elt F .f32 :=
  tile (gath (xs m) c) (iblk m c 1 t) (iblk m c 2 t) (iblk m c 3 t)

/-- What is carried: before the first point, -/
def carried (c : Dev nD) : ℕ → sProp 𝕄
  | 0 => iprop(start (xs m) c ∗ (∃ f, x8Pts c f) ∗ ∃ f, xgPts c f)
  /- and before every later one. -/
  | _ + 1 => iprop(x8Pts c (xs m c) ∗ xgPts c (gath (xs m) c) ∗ semsZero c)

def owedAt (c : Dev nD) : ℕ → CellTallies nD τ sig Unit
  | 0 => O₀ c
  | _ + 1 => 0

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile m c t
  Φ t := carried m c t.val
  q _ := fullShare
  owed t := owedAt c t.val

theorem before_0 (c : Dev nD) (t : Fin cfg0.N) (d) : (dats m 0 c).before 0 t d = xs m c :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

/-- The exchange happens at the first point only. -/
theorem first_iff : ∀ t : Fin grid0.N, k0_cond1 (grid0.coords t) = 1#1 ↔ t.val = 0 := by decide +kernel

theorem fresh_intro (c : Dev nD) (n : ℕ) (h : n = 0) :
    iprop(carried m c n ∗ ∃ W, owes (c : Thread nD τ) (owedAt c n) W) ⊢ fresh (xs m) c := by
  subst h
  unfold fresh
  show iprop((start (xs m) c ∗ (∃ f, x8Pts c f) ∗ ∃ f, xgPts c f) ∗ ∃ W, owes (c : Thread nD τ) (O₀ c) W) ⊢ _
  iintro ⟨⟨Hs, H6, H7⟩, HO⟩
  isplitl [Hs]; · iexact Hs
  isplitl [H6]; · iexact H6
  isplitl [H7] <;> iassumption

theorem settled_intro (c : Dev nD) (n : ℕ) (h : n ≠ 0) :
    iprop(carried m c n ∗ ∃ W, owes (c : Thread nD τ) (owedAt c n) W) ⊢ settled (xs m) c := by
  obtain ⟨n, rfl⟩ := Nat.exists_eq_succ_of_ne_zero h
  unfold settled
  show iprop((x8Pts c (xs m c) ∗ xgPts c (gath (xs m) c) ∗ semsZero c) ∗ ∃ W, owes (c : Thread nD τ) 0 W) ⊢ _
  iintro ⟨⟨H6, H7, Hz⟩, HO⟩
  isplitl [H6]; · iexact H6
  isplitl [H7]; · iexact H7
  isplitl [Hz] <;> iassumption

def bodyPre (c : Dev nD) (t : Fin cfg0.N) : sProp 𝕄 :=
  iprop(carried m c t.val ∗ (dats m 0 c).owesAt () t.castSucc
    ∗ (∃ d, owns (c : Thread nD τ) (st0_0 t) fullShare ((dats m 0 c).before (0 : Fin 5) t d))
    ∗ (∃ d, owns (c : Thread nD τ) (st0_1 t) fullShare ((dats m 0 c).before (1 : Fin 5) t d))
    ∗ (∃ d, owns (c : Thread nD τ) (st0_2 t) fullShare ((dats m 0 c).before (2 : Fin 5) t d))
    ∗ (∃ d, owns (c : Thread nD τ) (st0_3 t) fullShare ((dats m 0 c).before (3 : Fin 5) t d))
    ∗ (∃ d, owns (c : Thread nD τ) (st0_4 t) fullShare ((dats m 0 c).before (4 : Fin 5) t d)))

def bodyPost (c : Dev nD) (t : Fin cfg0.N) : sProp 𝕄 :=
  iprop(carried m c (t.val + 1) ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (outTile m c t))

theorem body_at (c : Dev nD) (t : Fin cfg0.N) :
    bodyPre m c t ⊢ wp frame (wpE (defs₀ (F := F)) 𝒱₀ (c : Thread nD τ) none) Set.univ (bodyAt0 t) (fun _ => bodyPost m c t) := by
  unfold bodyPre
  simp only [before_0, before_1, before_2, before_3]
  unfold Dat.owesAt Pipeline.owesWithin
  rw [show (dats m 0 c).owed t.castSucc = owedAt c t.val from rfl]
  iintro ⟨HΦ, ⟨%W, %hW, HO⟩, ⟨%_, H1⟩, ⟨%_, H2⟩, ⟨%_, H3⟩, ⟨%_, H4⟩, ⟨%d5, H5⟩⟩
  iapply (body_run (xs m) c (grid0.coords t) _ _ _ _ _ _ _ _ _ _ (iblk m c 1 t) (iblk m c 2 t) (iblk m c 3 t)
    iprop(carried m c t.val ∗ ∃ W, owes (c : Thread nD τ) (owedAt c t.val) W) _
    (fun h => fresh_intro m c _ ((first_iff t).mp h)) (fun h => settled_intro m c _ fun h' => h ((first_iff t).mpr h')))
  isplitl [HΦ HO]
  · isplitl [HΦ]; · iexact HΦ
    iexists W; iexact HO
  isplitl [H1]; · iexact H1
  isplitl [H2]; · iexact H2
  isplitl [H3]; · iexact H3
  isplitl [H4]; · iexact H4
  isplitl [H5]; · iexists _; iexact H5
  unfold settled bodyPost Dat.owesAt Pipeline.owesWithin
  rw [show (dats m 0 c).owed t.succ = 0 from rfl, show carried m c (t.val + 1) = iprop(x8Pts c (xs m c) ∗ xgPts c (gath (xs m) c) ∗ semsZero c) from rfl]
  iintro ⟨⟨H6, H7, Hz, ⟨%W', HO⟩⟩, H1, H2, H3, H4, H5⟩
  isplitl [H6 H7 Hz]
  · isplitl [H6]; · iexact H6
    isplitl [H7] <;> iassumption
  isplitl [HO]
  · iexists W'
    isplitr; · ipureintro; exact fun _ _ => Or.inl trivial
    iexact HO
  isplitl [H1]; · iexact H1
  isplitl [H2]; · iexact H2
  isplitl [H3]; · iexact H3
  isplitl [H4]; · iexact H4
  iexact H5

/-- The body's obligation at every point of the grid, on any device. -/
theorem body_obligation (c : Dev nD) : BodyObligation (dats (F := F) m 0 c) (defs₀ (F := F)) 𝒱₀ () Set.univ := fun t => by
  rw [bigSep_W0, bigSep_W0]
  exact body_at m c t

end Cert.Exchange

end
-- ==== Proof.Launch.lean ====
/-
# The launch

How the shared state of the exchange is made at launch and dealt to the devices, and the run of the
whole program: from any memory with zero counters, every device ends with its result array at the
computed contents, its arguments unchanged and every counter at zero.
-/
module

public import proofs.«01_k».proof.Proof.Data
public import Idealize.ShloMosaic.Lib.Pipeline.Launch
public import Idealize.ShloMosaic.Lib.Pipeline.Kit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S4096x512.Idx → Elt F .fp8e5m2)

/-! ## Cells and tokens -/

theorem ownSemFacts : Pipeline.OwnSemFacts cfg0.spec osem := by decide +kernel

theorem kcell_injective : Function.Injective (kcell : Dev nD × Fin 17 → GSem nD τ sig) := by
  rintro ⟨c, k⟩ ⟨c', k'⟩ h
  exact Prod.ext (congrArg (fun g : GSem nD τ sig => g.1.1) h) (csem_injective (congrArg Prod.snd h))

def allCells : Finset (GSem nD τ sig) := Finset.univ.map ⟨kcell, kcell_injective⟩

/-- The duties on one device's cells: a signal from each peer, a transfer to each, a landing from each, the local copy. -/
abbrev Duty : Type := Fin 7 ⊕ (Fin 7 ⊕ (Fin 7 ⊕ Unit))

def tokOf : Dev nD × Duty → GSem nD τ sig × ℕ × Fin 7
  | (c, .inl o) => (barCell c, 0, o)
  | (c, .inr (.inl o)) => (sendCell c o, 0, 0)
  | (c, .inr (.inr (.inl o))) => (recvCell c (tgt c o), 0, 0)
  | (c, .inr (.inr (.inr _))) => (locCell c, 0, 0)

/-- A duty's role and name determine it. -/
theorem duty_injective (c : Dev nD) : Function.Injective fun j : Duty => (roleOf (tokOf (c, j)).1.2, (tokOf (c, j)).2.2) := by
  revert c; decide +kernel

theorem tokOf_dev (c : Dev nD) (j : Duty) : (tokOf (c, j)).1.1.1 = c := by rcases j with o | o | o | _ <;> rfl

theorem tokOf_injective : Function.Injective tokOf := by
  rintro ⟨c, j⟩ ⟨c', j'⟩ h
  obtain rfl : c = c' := by rw [← tokOf_dev c j, h, tokOf_dev]
  exact congrArg (Prod.mk c) (duty_injective c (Prod.ext (congrArg (fun x => roleOf x.1.2) h) (congrArg (fun x => x.2.2) h)))

def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of the duties on a device's own cells. -/
def minted (c : Dev nD) : sProp 𝕄 :=
  iprop((bigSep Finset.univ fun o : Fin 7 => dutyTok EX (barCell c) 0 o) ∗ (bigSep Finset.univ fun o : Fin 7 => dutyTok EX (sendCell c o) 0 0)
    ∗ (bigSep Finset.univ fun o : Fin 7 => dutyTok EX (recvCell c (tgt c o)) 0 0) ∗ dutyTok EX (locCell c) 0 0)

/-- What the launch gives a device, -/
def G (c : Dev nD) : sProp 𝕄 :=
  iprop((bigSep Finset.univ fun k : Fin 17 => roundState EX (exch X) (kcell (c, k)) 0)
    ∗ (bigSep Finset.univ fun k : Fin 17 => iprop(atPos EX (kcell (c, k)) 0 ∅ 0 ∗ reached EX (kcell (c, k)) 0)) ∗ minted c)
/-- and what it starts from once the cells are shared and the tokens dealt. -/
def G' (c : Dev nD) : sProp 𝕄 :=
  iprop((∃ K, records X K) ∗ (bigSep Finset.univ fun k : Fin 17 => atPos EX (kcell (c, k)) 0 ∅ 0) ∗ tokens c)

omit [FloatOps F] in
theorem minted_eq (c : Dev nD) : (bigSep Finset.univ fun j : Duty => (dutyTok EX (tokOf (c, j)).1 (tokOf (c, j)).2.1 (tokOf (c, j)).2.2 : sProp 𝕄)) = minted c := by
  rw [BI.bigSep_univ_sum, BI.bigSep_univ_sum, BI.bigSep_univ_sum, show (Finset.univ : Finset Unit) = {()} from rfl, bigSep_singleton]
  rfl

omit [FloatOps F] in
theorem fund_exch : BI.own (EX (initOf allCells allToks)) ⊢ (|==> bigSep Finset.univ (G X) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => minted c := by
    unfold allToks; rw [bigSep_map, bigSep_univ_prod]
    exact bigSep_congr fun c _ => minted_eq c
  iintro HX
  imod (Rounds.fund EX (exch X) allCells allToks) $$ HX with ⟨Hst, Hr, Hat, Htok⟩
  imodintro
  ihave Hst' := (Entails.of_eq (hX fun g => roundState EX (exch X) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Sharing the cells -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 16 => semVal ((c : Thread nD τ), osem k) 0 := by
  unfold Pipeline.ownSems0; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: the barrier's and the kernel's own. -/
theorem semsZero_eq (c : Dev nD) : (semsZero c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]
  unfold semsZero
  rw [Fin.univ_succ, Finset.cons_eq_insert, bigSep_insert (by simp), bigSep_map]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv EX (exch X) κ (kcell (c, k))))
          ∗ (bigSep Finset.univ fun k => iprop(atPos EX (kcell (c, k)) 0 ∅ 0 ∗ reached EX (kcell (c, k)) 0)) ∗ minted c) := by
  have hv : iprop(unscopedSems0 c ∗ Pipeline.ownSems0 (Ix := Unit) (Name := ℕ) (U := UU) (Lvl := ℕ) (Val := Elt F) (τ := τ) osem c)
      ⊢ (bigSep Finset.univ fun k : Fin 17 => semVal (kcell (c, k)) 0 : sProp 𝕄) := Entails.of_eq (semsZero_eq c).symm
  unfold G
  iintro ⟨Hos, Hus, Hst, Hat, Htok⟩
  ihave Hv := hv $$ [Hos Hus]
  · isplitl [Hus] <;> iassumption
  imod (show iprop((bigSep Finset.univ fun k : Fin 17 => semVal (kcell (c, k)) 0) ∗ bigSep Finset.univ fun k : Fin 17 => roundState EX (exch X) (kcell (c, k)) 0)
      ⊢ (|={Set.univ}=> bigSep Finset.univ fun k => iprop(∃ κ : ℕ, cellInv EX (exch X) κ (kcell (c, k))) : sProp 𝕄) from by
        rw [← bigSep_sep']
        exact (bigSep_mono fun k _ => (Rounds.body_intro EX (exch X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and distances, seen from the other end of each pair. -/
theorem bigSep_swap (Φ : Dev nD → Fin 7 → sProp 𝕄) : (bigSep Finset.univ fun c => bigSep Finset.univ fun o : Fin 7 => Φ c o)
    = bigSep Finset.univ fun c => bigSep Finset.univ fun o : Fin 7 => Φ (tgt c o) o.rev := by
  rw [← bigSep_univ_prod (fun p : Dev nD × Fin 7 => Φ p.1 p.2), bigSep_univ_equiv swapEnds, bigSep_univ_prod]
  rfl

omit [FloatOps F] in
/-- The tokens dealt: a signal's to the device that gives it, a landing's to the device that sends. -/
theorem deal : (bigSep Finset.univ fun c : Dev nD => (minted c : sProp 𝕄)) ⊢ bigSep Finset.univ fun c : Dev nD => tokens c := by
  unfold minted tokens
  simp only [bigSep_sep']
  rw [bigSep_swap fun c o => dutyTok EX (barCell c) 0 o, bigSep_swap fun c o => dutyTok EX (recvCell c (tgt c o)) 0 0]
  simp only [tgt_rev]
  iintro ⟨H1, H2, H3, H4⟩
  isplitl [H1]; · iexact H1
  isplitl [H2 H3]
  · isplitl [H2] <;> iassumption
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv EX (exch X) κ (kcell (c, k))))
          ∗ (bigSep Finset.univ fun k => iprop(atPos EX (kcell (c, k)) 0 ∅ 0 ∗ reached EX (kcell (c, k)) 0)) ∗ minted c) : sProp 𝕄)
      ⊢ bigSep Finset.univ (G' X) := by
  have hg (K : Dev nD × Fin 17 → ℕ) (c : Dev nD) :
      iprop(records X K ∗ (bigSep Finset.univ fun k : Fin 17 => atPos EX (kcell (c, k)) 0 ∅ 0) ∗ tokens c) ⊢ G' X c := by
    unfold G'
    iintro ⟨#HR, H1, H2⟩
    isplitr; · iexists K; iexact HR
    isplitl [H1] <;> iassumption
  rw [bigSep_sep', bigSep_sep', ← bigSep_univ_prod (fun ck : Dev nD × Fin 17 => iprop(∃ κ : ℕ, cellInv EX (exch X) κ (kcell ck))),
    bigSep_congr (s := Finset.univ) (fun (c : Dev nD) _ => bigSep_sep' Finset.univ (fun k : Fin 17 => (atPos EX (kcell (c, k)) 0 ∅ 0 : sProp 𝕄)) (fun k => reached EX (kcell (c, k)) 0)),
    bigSep_sep', ← bigSep_univ_prod (fun ck : Dev nD × Fin 17 => (reached EX (kcell ck) 0 : sProp 𝕄))]
  iintro ⟨HI, ⟨Hat, #HR⟩, Htok⟩
  ihave HK := (BI.bigSep_exists_pi Finset.univ (fun (ck : Dev nD × Fin 17) (κ : ℕ) => (cellInv EX (exch X) κ (kcell ck) : sProp 𝕄))) $$ HI
  icases HK with ⟨%K, #HI⟩
  ihave Htk := (deal (F := F)) $$ Htok
  iapply (bigSep_with_persistent (R := records X K) fun c _ => hg K c)
  isplitr
  · unfold records; isplitl; · iexact HI
    iexact HR
  · iapply (Entails.of_eq (bigSep_sep' Finset.univ (fun c : Dev nD => bigSep Finset.univ fun k : Fin 17 => (atPos EX (kcell (c, k)) 0 ∅ 0 : sProp 𝕄)) tokens).symm)
    isplitl [Hat]; · iexact Hat
    iexact Htk

omit [FloatOps F] in
/-- The global step, over every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem count_bar (c : Dev nD) : (∑ d : Dev nD, ∑ o : Fin 7, if c = tgt d o then 1 else 0) = 7 := by revert c; decide +kernel
theorem count_recv (c : Dev nD) (e : Fin 7) :
    (∑ d : Dev nD, ∑ o : Fin 7, if c = tgt d o ∧ tgt c e = d then 1 else 0) = 1 := by revert c e; decide +kernel

theorem owed_bar (d c : Dev nD) : O₀ d (barCell c) () = ∑ o : Fin 7, if c = tgt d o then 1 else 0 := by
  unfold O₀
  rw [Pi.add_apply, Finsupp.add_apply]
  unfold orecv obar
  rw [sum_tally_apply, sum_tally_apply, Finset.sum_eq_zero fun o _ => if_neg fun h => recv_ne_bar _ _ _ h.symm, from_zero, Nat.zero_add]
  exact Finset.sum_congr rfl fun o _ => if_congr ⟨barCell_inj, fun h => h ▸ rfl⟩ rfl rfl

theorem owed_recv (d c e : Dev nD) : O₀ d (recvCell c e) () = N * ∑ o : Fin 7, if c = tgt d o ∧ e = d then 1 else 0 := by
  unfold O₀
  rw [Pi.add_apply, Finsupp.add_apply]
  unfold orecv obar
  rw [sum_tally_apply, sum_tally_apply, from_zero, Finset.sum_eq_zero (f := fun o => if recvCell c e = barCell (tgt d o) then 1 else 0)
    fun o _ => if_neg fun h => recv_ne_bar _ _ _ h, Nat.add_zero, Finset.mul_sum]
  refine Finset.sum_congr rfl fun o _ => ?_
  rw [mul_ite, mul_one, mul_zero]
  exact if_congr ⟨recvCell_inj, fun ⟨h, h'⟩ => h ▸ h' ▸ rfl⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (o : Fin 7) :
    tallyOn (recvCell c (tgt c o)) (launchCredit (Pipeline.owing O₀) 0 (recvCell c (tgt c o))) = (tallyAt (recvCell c (tgt c o)) () N : CellTallies nD τ sig Unit) := by
  unfold tallyAt; refine congrArg _ (Finsupp.ext fun u => ?_); cases u
  rw [Pipeline.launchCredit_owing, Finsupp.single_eq_same, Finset.sum_congr rfl fun d _ => owed_recv d c (tgt c o), ← Finset.mul_sum, count_recv, mul_one]

theorem peers_injective (c : Dev nD) : Function.Injective fun o : Fin 7 => (SemLoc.dma (recvS (tgt c o)) : SemLoc sig) := by
  intro a b h
  have h' : recvCell c (tgt c a) = recvCell c (tgt c b) := Prod.ext rfl h
  exact tgt_injective c (recvCell_inj h').2

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ((BI.bigSep_subset (t := Finset.univ.map ⟨_, peers_injective c⟩) fun s hs => ?_).trans ?_)
  · obtain ⟨o, -, rfl⟩ := Finset.mem_map.mp hs
    exact Finset.mem_erase.mpr ⟨fun h => (recv_ne_bar c c (tgt c o) (Prod.ext rfl h)), Finset.mem_univ _⟩
  · rw [bigSep_map]
    exact bigSep_mono fun o _ => Entails.of_eq (congrArg (fun x => cred x) (launch_recv c o))

/-! ## The run -/

variable (m : (ℓ : Loc nD τ sig) → Buf (Elt F) ℓ) (ρ : Dev nD → PrngReg)

theorem share_eq (c : Dev nD) (w : Fin cfg0.W) : (dats m 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' X c)
      ⊢ |={Set.univ}=> iprop(start X c ∗ emp) := by
  unfold start G'
  iintro ⟨-, Hlev, Hcr, -, HG, Hat, Htok⟩
  ihave Hc := (creds (F := F) c) $$ Hcr
  imodintro
  isplitl
  · isplitl [HG]; · iexact HG
    isplitl [Hlev]; · iexact Hlev
    isplitl [Hat]; · iexact Hat
    isplitl [Htok] <;> iassumption
  · iempintro

theorem phi0_intro (c : Dev nD) :
    iprop(start (xs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (xs m) c ∗ (∃ f, x8Pts c f) ∗ ∃ f, xgPts c f) from rfl, scopedRest0_eq]
  iintro ⟨Hs, -, ⟨%f, H6⟩, ⟨%g, H7⟩⟩
  isplitl [Hs]; · iexact Hs
  isplitl [H6]
  · iexists f; iexact H6
  · iexists g; iexact H7

theorem phi_last (c : Dev nD) : (dats m 0 c).Φ (Fin.last cfg0.N) = iprop(x8Pts c (xs m c) ∗ xgPts c (gath (xs m) c) ∗ semsZero c) := by
  show carried m c cfg0.N = _
  rw [show cfg0.N = 16 from N_0]; rfl

theorem phi1_exit (c : Dev nD) :
    (dats m 0 c).Φ (Fin.last cfg0.N) ⊢ iprop(unscopedSems0 c ∗ Pipeline.ownSems0 osem c ∗ Pipeline.scopedRest cfg0.spec c) := by
  rw [phi_last, scopedRest0_eq, semsZero_eq]
  iintro ⟨H6, H7, Hu, Ho⟩
  isplitl [Hu]; · iexact Hu
  isplitl [Ho]; · iexact Ho
  isplitl [H6]
  · iexists (xs m c); iexact H6
  · iexists (gath (xs m) c); iexact H7

theorem owedAt_cases (c : Dev nD) (n : ℕ) : owedAt c n = O₀ c ∨ owedAt c n = 0 := by
  cases n with
  | zero => exact Or.inl rfl
  | succ n => exact Or.inr rfl

theorem stage_role : ∀ (w : Fin cfg0.W) (s : Fin (cfg0.win w).nbuf), roleOf (.dma ((cfg0.win w).sem s)) = .other := by decide +kernel

theorem waits (c : Dev nD) : (levAts L lv : sProp 𝕄) ⊢ Pipeline.cellsWaits cfgs (dats m) () 0 c :=
  Pipeline.cellsWaits_intro cfgs (dats m) () 0 c fun w s t => mayWait_stage c _ (stage_role w s) _ (owedAt_cases c t.val)

def QC : PUnit × MemSt nD τ sig (Elt F) → Prop := fun r =>
  ∀ c : Dev nD, ∀ w : Fin cfg0.W, r.2.mem ((cfg0.win w).arr.view.loc (c : Thread nD τ)) = (dats m 0 c).arrAt w cfg0.N

/-- The run of the program on eight devices, over any float values and from any memory with zero
    counters: it terminates without fault, each device's arrays end at the computed contents, and
    every counter ends at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xs m)) (G' := G' (xs m)) (u₀ := u₀)
    (hu₀ := by
      unfold u₀
      iintro Hu
      ihave H := (ownU_pair _ _) $$ Hu
      icases H with ⟨HP, HX⟩
      imod (fund_exch (xs m)) $$ HX with HG
      imodintro
      isplitl [HP] <;> iassumption)
    (hglob := glob (xs m))
    (hA := fun _ _ => rfl) (hpf := fun _ k => k.elim0)
    (X := start (xs m)) (Y := fun c => unscopedSems0 c) (Z := fun _ => iprop(emp))
    (hX := start_intro (xs m) m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Value.lean ====
/-
# The device's rows of the product

Over the extended reals: when the devices hold the left operand's columns, the array a device ends with
is its block of 512 rows of the whole scaled product.
-/
module

public import proofs.«01_k».proof.Proof.Product
public import proofs.«01_k».proof.Proof.Launch
public import Idealize.ShloMosaic.Lib.Layout

@[expose] public section

noncomputable section

namespace Cert.Exchange

open Cert.KernelIdeal Cert.KernelIdeal.Gen

open Idealize.ShloMosaic hiding ix1 ix2 ix3
open Idealize.ShloMosaic.TcCoe
open Idealize.ShloMosaic.ValueIdx
open Idealize.SL.Sem
open scoped BigOperators

variable (m : (ℓ : Loc nD τ sig) → Buf (Elt Ideal) ℓ)

/-- Grid point `t` addresses block `t` of the columns, and everything else whole. -/
theorem index_x : ∀ t : Fin cfg0.N, win0_0.index t (0 : Fin 2) = 0 ∧ win0_0.index t (1 : Fin 2) = 0 := (by decide +kernel : ∀ t : Fin grid0.N, _)
theorem index_w : ∀ t : Fin cfg0.N, win0_1.index t (0 : Fin 2) = 0 ∧ win0_1.index t (1 : Fin 2) = t.val := (by decide +kernel : ∀ t : Fin grid0.N, _)
theorem index_sx : ∀ t : Fin cfg0.N, win0_2.index t (0 : Fin 1) = 0 := (by decide +kernel : ∀ t : Fin grid0.N, _)
theorem index_sw : ∀ t : Fin cfg0.N, win0_3.index t (0 : Fin 1) = 0 := (by decide +kernel : ∀ t : Fin grid0.N, _)
theorem index_o : ∀ t : Fin cfg0.N, win0_4.index t (0 : Fin 2) = 0 ∧ win0_4.index t (1 : Fin 2) = t.val := (by decide +kernel : ∀ t : Fin grid0.N, _)

/-- A device's columns of the left operand are its argument. -/
theorem xs_apply (c : Dev nD) : xs m c = m ((c : Thread nD τ).loc main_arg0) := by
  funext z
  have h := index_x t0_0
  unfold xs
  blk_simp [iblk, V]
  refine congrArg (m ((c : Thread nD τ).loc main_arg0)) (funext fun a => Fin.ext ?_)
  match a with
  | ⟨0, _⟩ => blk_simp; rw [h.1]; omega
  | ⟨1, _⟩ => blk_simp; rw [h.2]; omega

/-- Point `t`'s block of the right operand. -/
theorem w_apply (c : Dev nD) (t : Fin cfg0.N) (l : Fin 4096) (q : Fin 512) :
    iblk m c 1 t (ix2 (n0 := 4096) (n1 := 512) l q)
      = m ((c : Thread nD τ).loc main_arg1) (ix2 (n0 := 4096) (n1 := 8192) l ⟨t.val * 512 + q.val, by have h : t.val < 16 := N_0 ▸ t.isLt; omega⟩) := by
  have h := index_w t
  blk_simp [iblk, V]
  refine congrArg (m ((c : Thread nD τ).loc main_arg1)) (funext fun a => Fin.ext ?_)
  match a with
  | ⟨0, _⟩ => blk_simp; rw [h.1]; show 0 * 4096 + l.val = l.val; omega
  | ⟨1, _⟩ => blk_simp; rw [h.2]

theorem sx_apply (c : Dev nD) (t : Fin cfg0.N) : iblk m c 2 t = m ((c : Thread nD τ).loc main_arg2) := by
  funext z
  have h := index_sx t
  blk_simp [iblk, V]
  refine congrArg (m ((c : Thread nD τ).loc main_arg2)) (funext fun a => Fin.ext ?_)
  match a with
  | ⟨0, _⟩ => blk_simp; rw [h]
theorem sw_apply (c : Dev nD) (t : Fin cfg0.N) : iblk m c 3 t = m ((c : Thread nD τ).loc main_arg3) := by
  funext z
  have h := index_sw t
  blk_simp [iblk, V]
  refine congrArg (m ((c : Thread nD τ).loc main_arg3)) (funext fun a => Fin.ext ?_)
  match a with
  | ⟨0, _⟩ => blk_simp; rw [h]

variable (x : (⟨2, ![4096, 4096]⟩ : Shape).Idx → EReal)

/-- The gathered buffer's slots side by side are the device's rows of the whole left operand. -/
theorem gath_apply (hx : ∀ e : Dev nD, m ((e : Thread nD τ).loc main_arg0) = Layout.block ⟨2, ![4096, 512]⟩ ⟨2, ![4096, 4096]⟩ 1 8 e x)
    (c e : Dev nD) (r k : Fin 512) :
    gath (xs m) c (ix3 (n0 := 8) (n1 := 512) (n2 := 512) e r k)
      = x (ix2 (n0 := 4096) (n1 := 4096) ⟨c.val * 512 + r.val, by have h : c.val < 8 := c.isLt; omega⟩
          ⟨e.val * 512 + k.val, by have h : e.val < 8 := e.isLt; omega⟩) := by
  show xs m e _ = _
  rw [xs_apply, hx]
  refine congrArg x (funext fun a => Fin.ext ?_)
  match a with
  | ⟨0, _⟩ => show 512 * c.val + r.val = c.val * 512 + r.val; omega
  | ⟨1, _⟩ => rfl

/-- A device's result array ends at its rows of the scaled product. -/
theorem final (hx : ∀ e : Dev nD, m ((e : Thread nD τ).loc main_arg0) = Layout.block ⟨2, ![4096, 512]⟩ ⟨2, ![4096, 4096]⟩ 1 8 e x) (c : Dev nD) :
    (dats m 0 c).arrAt 4 cfg0.N = Layout.block ⟨2, ![512, 8192]⟩ ⟨2, ![4096, 8192]⟩ 0 8 c
      (result x (m ((c : Thread nD τ).loc main_arg1)) (m ((c : Thread nD τ).loc main_arg2)) (m ((c : Thread nD τ).loc main_arg3))) := by
  refine (dats m 0 c).arrAt_eq_of_covers 4 _ (by decide +kernel) fun t hf y => ?_
  have h := index_o t
  obtain ⟨r, q, rfl⟩ : ∃ (r q : Fin 512), y = ix2 r q := ⟨y 0, y 1, ValueIdx.eq_ix2 y⟩
  refine (tile_apply (gath (xs m) c) (iblk m c 1 t) (iblk m c 2 t) (iblk m c 3 t) r q).trans ?_
  rw [sx_apply, sw_apply, Layout.block_apply]
  unfold result
  refine congrArg (fun s : EReal => max (s * _) 0) ?_
  refine Fin.sum_mul_add_congr fun e k hl => ?_
  rw [slotOf_apply, rowsOf_apply, gath_apply m x hx, w_apply]
  refine congrArg₂ (fun a b : EReal => a * b) (congrArg x (funext fun a => Fin.ext ?_)) (congrArg (m ((c : Thread nD τ).loc main_arg1)) (funext fun a => Fin.ext ?_))
  · match a with
    | ⟨0, _⟩ =>
      show c.val * 512 + r.val = c.val * 512 + (((cfg0.win 4).blk t).view.emb (ix2 r q) 0 : Nat)
      blk_simp; rw [h.1]; show _ = c.val * 512 + (0 * 512 + r.val); omega
    | ⟨1, _⟩ => rfl
  · match a with
    | ⟨0, _⟩ => show 512 * e.val + k.val = e.val * 512 + k.val; omega
    | ⟨1, _⟩ =>
      show t.val * 512 + q.val = (((cfg0.win 4).blk t).view.emb (ix2 r q) 1 : Nat)
      blk_simp; rw [h.2]; rfl

end Cert.Exchange

end
-- ==== Proof.RefValue.lean ====
/-
# The reference's run

The one product of the reference, read at a row and a column, is the function of `result`.
-/
module

public import proofs.«01_k».proof.Proof.Product
public import proofs.«01_k».proof.Proof.Gen.ReferenceIdeal.Value

@[expose] public section

noncomputable section

namespace Cert.Whole

open Cert.ReferenceIdeal Cert.ReferenceIdeal.Gen

open Idealize.ShloMosaic hiding ix1 ix2 ix3
open Idealize.ShloMosaic.TcCoe
open Idealize.ShloMosaic.ValueIdx
open Idealize.SL.Sem
open scoped BigOperators

theorem zeros : (![0, 0] : Fin 2 → Nat) = fun _ => 0 := funext fun a => by fin_cases a <;> rfl

/-- The block the reference stores. -/
theorem stored {F : FTy → Type} [FloatOps F] (c : Dev nD) (arg0 : Memref sig .tc .vmem S4096x4096 .fp8e5m2) (harg0 : arg0.IsWhole) (arg1 : Memref sig .tc .vmem S4096x8192 .fp8e5m2) (harg1 : arg1.IsWhole)
    (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S4096x4096 .fp8e5m2) (x1 : Vec F S4096x8192 .fp8e5m2) (x2 x3 : Vec F S1 .f32) :
    out0_A_4 c arg0 harg0 arg1 harg1 arg2 harg2 arg3 harg3 arg4 harg4 x0 x1 x2 x3 = k0_pay1 x0 x1 (x2 (ix1 0)) (x3 (ix1 0)) := by
  unfold out0_A_4
  rw [View.read_writes_eq_canon _ _ _ (cover0_A_4 c arg0 harg0 arg1 harg1 arg2 harg2 arg3 harg3 arg4 harg4 x0 x1 x2 x3)]
  unfold kernelRun0_A
  dsimp only
  sl_unfold_words
  rw [View.canon_unit_zero (S := S4096x8192) zeros]
  simp only [View.readAt_eq_ld, harg0.read_unread, harg1.read_unread, harg2.read_unread, harg3.read_unread,
    View.ld_unit_zero (S := S4096x8192) zeros, View.ld_unit_zero (S := S4096x4096) zeros]
  exact congrArg₂ (k0_pay1 x0 x1) (congrArg x2 (funext fun a => by match a with | ⟨0, _⟩ => rfl))
    (congrArg x3 (funext fun a => by match a with | ⟨0, _⟩ => rfl))

/-- It is the scaled product. -/
theorem stored_apply (x0 : Vec Ideal S4096x4096 .fp8e5m2) (x1 : Vec Ideal S4096x8192 .fp8e5m2) (a b : Vec Ideal S1 .f32) :
    k0_pay1 x0 x1 (a (ix1 0)) (b (ix1 0)) = Cert.Exchange.result x0 x1 a b := by
  funext i
  obtain ⟨r, q, rfl⟩ : ∃ (r : Fin 4096) (q : Fin 8192), i = ix2 r q := ⟨i 0, i 1, ValueIdx.eq_ix2 i⟩
  unfold k0_pay1
  simp only [maximumf, mulf, broadcast, Ideal.maximumf_def, Ideal.mulf_def, Ideal.scalar_mulf_def]
  unfold Cert.Exchange.result
  refine congrArg₂ max (congrArg (· * (a (ix1 0) * b (ix1 0))) ?_) Ideal.ofBits_zero_f32
  refine (Ideal.matmul_plain_apply (M := 4096) (K := 4096) (N := 8192) none _ _ _ r q).trans ?_
  rw [show (constant (F := Ideal) S4096x8192 .f32 0x00000000#32) (ix2 r q) = 0 from Ideal.ofBits_zero_f32, zero_add]
  rfl

variable (m : (ℓ : Loc nD τ sig) → Buf (Elt Ideal) ℓ) (ρ : Dev nD → PrngReg)

/-- The grid's one point addresses each whole array, so an index of the block is the same index of the array. -/
theorem emb_whole (w : Fin cfg0.W) (t : Fin cfg0.N) (h : ∀ a, (cfg0.win w).index t a = 0) (y : ((cfg0.win w).xblock (cfg0.grid.coords t)).Idx) (a) :
    ((((cfg0.win w).rect t).emb y) a : Nat) = y a := Pipeline.Window.rect_emb_val_of_index_zero _ _ _ (h a) y

theorem block_0 (c : Dev nD) (t : Fin cfg0.N) : iblk m c 0 t = m ((c : Thread nD τ).loc main_arg0) :=
  funext fun z => congrArg (m ((c : Thread nD τ).loc main_arg0)) (funext fun a => Fin.ext (emb_whole 0 t (fun _ => rfl) z a))
theorem block_1 (c : Dev nD) (t : Fin cfg0.N) : iblk m c 1 t = m ((c : Thread nD τ).loc main_arg1) :=
  funext fun z => congrArg (m ((c : Thread nD τ).loc main_arg1)) (funext fun a => Fin.ext (emb_whole 1 t (fun _ => rfl) z a))
theorem block_2 (c : Dev nD) (t : Fin cfg0.N) : iblk m c 2 t = m ((c : Thread nD τ).loc main_arg2) :=
  funext fun z => congrArg (m ((c : Thread nD τ).loc main_arg2)) (funext fun a => Fin.ext (emb_whole 2 t (fun _ => rfl) z a))
theorem block_3 (c : Dev nD) (t : Fin cfg0.N) : iblk m c 3 t = m ((c : Thread nD τ).loc main_arg3) :=
  funext fun z => congrArg (m ((c : Thread nD τ).loc main_arg3)) (funext fun a => Fin.ext (emb_whole 3 t (fun _ => rfl) z a))

/-- The reference's result array ends at the scaled product of its arguments. -/
theorem final (c : Dev nD) :
    (dats m 0 c).arrAt 4 cfg0.N = Cert.Exchange.result (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  rw [after0_4]
  unfold outsAt0
  rw [stored, stored_apply, block_0, block_1, block_2, block_3]
  exact congrArg (Cert.Exchange.result (m ((c : Thread nD τ).loc main_arg0)) (m ((c : Thread nD τ).loc main_arg1))
    (m ((c : Thread nD τ).loc main_arg2)) (m ((c : Thread nD τ).loc main_arg3))) (funext fun a => Fin.ext (emb_whole 4 t (fun _ => rfl) y a).symm)

end Cert.Whole

end
-- ==== Proof.Claims.lean ====
/-
# The claims

The kernel leaves its arguments unchanged and every counter at zero, over machine words and over the
extended reals; and over the extended reals its devices end with the blocks of the reference's result.
-/
module

public import proofs.«01_k».proof.Defs
public import proofs.«01_k».proof.Proof.Value
public import proofs.«01_k».proof.Proof.RefValue
public import proofs.«01_k».proof.Proof.Gen.Kernel.Frame

@[expose] public section

noncomputable section

namespace Cert.Exchange

open Idealize.ShloMosaic
open Idealize.ShloMosaic.TcCoe
open Idealize.SL.Sem

section
open Cert.KernelIdeal Cert.KernelIdeal.Gen

variable {F : FTy → Type} [FloatOps F] (m : (ℓ : Loc nD τ sig) → Buf (Elt F) ℓ) (ρ : Dev nD → PrngReg)

/-- An argument is staged and never written back, so it ends as launched. -/
theorem kept {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans ((dats m 0 c).arrAt_in 0 rfl _), (h c 1).trans ((dats m 0 c).arrAt_in 1 rfl _),
    (h c 2).trans ((dats m 0 c).arrAt_in 2 rfl _), (h c 3).trans ((dats m 0 c).arrAt_in 3 rfl _)⟩

end

theorem quiescent_ideal : Cert.quiescent_KernelIdeal (hKernelIdeal := Cert.KernelIdeal.Gen.facts) := fun m ρ _ =>
  (θ_run Cert.KernelIdeal.defs _ _).mono (fun _ h => ⟨fun c => kept m h.1 c, h.2⟩) (run_main m ρ)

/-- The two printings of the kernel's body are one program. -/
theorem body_eq : Cert.Kernel.cc0_body (F := Bits) = Cert.KernelIdeal.cc0_body (F := Bits) := rfl

/-- The two tables of kernel bodies are one. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => dsimp only; rw [body_eq]; rfl

/-- So are the two tables with the pipeline's own bodies. -/
theorem table_eq : Cert.Kernel.defs (F := Bits) = Cert.KernelIdeal.defs (F := Bits) := by
  unfold Cert.Kernel.defs Cert.KernelIdeal.defs
  exact congrArg (Pipeline.defs Cert.Kernel.pcfgs) bodies_eq

theorem main_eq : Cert.Kernel.main (F := Bits) = Cert.KernelIdeal.main (F := Bits) := rfl

/-- The run holds over any values, machine words among them. -/
theorem quiescent_words : Cert.quiescent_Kernel (hKernel := Cert.Kernel.Gen.facts) := fun m ρ _ => by
  rw [table_eq, main_eq]
  exact (θ_run (Cert.KernelIdeal.defs (F := Bits)) _ _).mono
    (fun _ h => (⟨fun c => kept (F := Bits) m h.1 c, h.2⟩ : (∀ c, _ ∧ _ ∧ _ ∧ _) ∧ _)) (run_main (F := Bits) m ρ)

/-- Every device ends with its rows of what the reference computes on the whole arrays. -/
theorem algebraic : Cert.algebraic_KernelIdeal_ReferenceIdeal (hKernelIdeal := Cert.KernelIdeal.Gen.facts)
    (hReferenceIdeal := Cert.ReferenceIdeal.Gen.facts) := fun m ρ m' ρ' _ hm => by
  refine ⟨_, (θ_run Cert.KernelIdeal.defs _ _).mono (fun r h c => ⟨?_, kept m h.1 c⟩) (run_main m ρ),
    (θ_run Cert.ReferenceIdeal.defs _ _).mono (fun r h => ⟨(h 0).1.trans (Cert.Whole.final m' 0), (h 0).2⟩) (Cert.ReferenceIdeal.Value.run_blocks m' ρ')⟩
  rw [← (hm c).2.1, ← (hm c).2.2.1, ← (hm c).2.2.2]
  exact (h.1 c 4).trans (final m _ (fun e => (hm e).1) c)

end Cert.Exchange

end
-- ==== Proof.lean ====
module

public import proofs.«01_k».proof.Proof.Gen.ReferenceIdeal.Value
public import proofs.«01_k».proof.Proof.Claims
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.quiescent_words, Cert.Exchange.quiescent_ideal, fun m ρ _ => Cert.ReferenceIdeal.Gen.frame m ρ, trivial,
  Cert.Exchange.algebraic⟩

end Cert.Proof

end
